-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![2048, 512]⟩ ⟨2, ![8192, 512]⟩ (Layout.meshBlock [2, 4, 4] ![[2], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x512 : Shape := ⟨2, ![2048, 512]⟩
abbrev S8x128x512 : Shape := ⟨3, ![8, 128, 512]⟩
abbrev S8 : Shape := ⟨1, ![8]⟩
abbrev S_ : Shape := ⟨0, ![]⟩
abbrev S1 : Shape := ⟨1, ![1]⟩
abbrev S128x512 : Shape := ⟨2, ![128, 512]⟩
abbrev S1x128x512 : Shape := ⟨3, ![1, 128, 512]⟩

abbrev nBuf : Space → Nat
  | .hbm => 2
  | .vmem => 3
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .local _ .vmem, ⟨0, _⟩ => ⟨S2048x512, .f32⟩
  | .local _ .vmem, ⟨1, _⟩ => ⟨S2048x512, .f32⟩
  | .local _ .vmem, ⟨2, _⟩ => ⟨S8x128x512, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  (ofTc nBuf bufTy 1 66 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_cond1 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .eq v8 c0_i32
  let c3_i32 : BitVec 32 := 3#32
  let v10 : BitVec 1 := Scalar.cmpi .eq v8 c3_i32
  let v11 : BitVec 1 := Scalar.ori v9 v10
  let v44 : BitVec 32 := Scalar.extui v11
  let c0_i32_26 : BitVec 32 := 0#32
  let v45 : BitVec 1 := Scalar.cmpi .ne v44 c0_i32_26
  v45

def k0_dev1 (d0 : Dev nD) : Nat :=
  let c0_i32_33 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_32 : BitVec 32 := 16#32
  let v54 : BitVec 32 := Scalar.muli v2 c16_i32_32
  let v55 : BitVec 32 := Scalar.addi c0_i32_33 v54
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_34 : BitVec 32 := 4#32
  let v56 : BitVec 32 := Scalar.muli v5 c4_i32_34
  let v57 : BitVec 32 := Scalar.addi v55 v56
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_2 : BitVec 32 := 0#32
  let v12 : BitVec 1 := Scalar.cmpi .eq v8 c0_i32_2
  let c1_i32_3 : BitVec 32 := 1#32
  let c2_i32_4 : BitVec 32 := 2#32
  let v13 : BitVec 32 := Scalar.select v12 c1_i32_3 c2_i32_4
  let c1_i32_35 : BitVec 32 := 1#32
  let v58 : BitVec 32 := Scalar.muli v13 c1_i32_35
  let v59 : BitVec 32 := Scalar.addi v57 v58
  v59.toNat
def k0_dev2 (d0 : Dev nD) : Nat :=
  let c0_i32_38 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_37 : BitVec 32 := 16#32
  let v60 : BitVec 32 := Scalar.muli v2 c16_i32_37
  let v61 : BitVec 32 := Scalar.addi c0_i32_38 v60
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_11 : BitVec 32 := 1#32
  let v18 : BitVec 32 := Scalar.addi v5 c1_i32_11
  let c2_i32_18 : BitVec 32 := 2#32
  let c2_i32_12 : BitVec 32 := 2#32
  let c0_i32_13 : BitVec 32 := 0#32
  let v19 : BitVec 1 := Scalar.cmpi .eq c2_i32_12 c0_i32_13
  let c1_i32_14 : BitVec 32 := 1#32
  let v20 : BitVec 32 := Scalar.select v19 c1_i32_14 c2_i32_12
  let v21 : BitVec 32 := Scalar.remsi v5 v20
  let c0_i32_16 : BitVec 32 := 0#32
  let v23 : BitVec 1 := Scalar.cmpi .slt v21 c0_i32_16
  let c0_i32_17 : BitVec 32 := 0#32
  let v24 : BitVec 1 := Scalar.cmpi .slt v20 c0_i32_17
  let v25 : BitVec 1 := Scalar.xori v23 v24
  let c0_i32_15 : BitVec 32 := 0#32
  let v22 : BitVec 1 := Scalar.cmpi .ne v21 c0_i32_15
  let v26 : BitVec 1 := Scalar.andi v25 v22
  let v27 : BitVec 32 := Scalar.addi v21 v20
  let v28 : BitVec 32 := Scalar.select v26 v27 v21
  let v29 : BitVec 32 := Scalar.muli c2_i32_18 v28
  let v30 : BitVec 32 := Scalar.subi v18 v29
  let c4_i32_39 : BitVec 32 := 4#32
  let v62 : BitVec 32 := Scalar.muli v30 c4_i32_39
  let v63 : BitVec 32 := Scalar.addi v61 v62
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_40 : BitVec 32 := 1#32
  let v64 : BitVec 32 := Scalar.muli v8 c1_i32_40
  let v65 : BitVec 32 := Scalar.addi v63 v64
  v65.toNat
def k0_cond2 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .eq v8 c0_i32
  let c3_i32 : BitVec 32 := 3#32
  let v10 : BitVec 1 := Scalar.cmpi .eq v8 c3_i32
  let v11 : BitVec 1 := Scalar.ori v9 v10
  let v_true : BitVec 1 := 1#1
  let v46 : BitVec 1 := Scalar.xori v11 v_true
  let v47 : BitVec 32 := Scalar.extui v46
  let c0_i32_27 : BitVec 32 := 0#32
  let v48 : BitVec 1 := Scalar.cmpi .ne v47 c0_i32_27
  v48

def k0_dev3 (d0 : Dev nD) : Nat :=
  let c0_i32_33 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_32 : BitVec 32 := 16#32
  let v54 : BitVec 32 := Scalar.muli v2 c16_i32_32
  let v55 : BitVec 32 := Scalar.addi c0_i32_33 v54
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_34 : BitVec 32 := 4#32
  let v56 : BitVec 32 := Scalar.muli v5 c4_i32_34
  let v57 : BitVec 32 := Scalar.addi v55 v56
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v14 : BitVec 1 := Scalar.cmpi .eq v8 c1_i32_5
  let c0_i32_6 : BitVec 32 := 0#32
  let c3_i32_7 : BitVec 32 := 3#32
  let v15 : BitVec 32 := Scalar.select v14 c0_i32_6 c3_i32_7
  let c1_i32_35 : BitVec 32 := 1#32
  let v58 : BitVec 32 := Scalar.muli v15 c1_i32_35
  let v59 : BitVec 32 := Scalar.addi v57 v58
  v59.toNat
def k0_dev4 (d0 : Dev nD) : Nat :=
  let c0_i32_38 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_37 : BitVec 32 := 16#32
  let v60 : BitVec 32 := Scalar.muli v2 c16_i32_37
  let v61 : BitVec 32 := Scalar.addi c0_i32_38 v60
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_39 : BitVec 32 := 4#32
  let v62 : BitVec 32 := Scalar.muli v5 c4_i32_39
  let v63 : BitVec 32 := Scalar.addi v61 v62
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v16 : BitVec 1 := Scalar.cmpi .eq v8 c1_i32_8
  let c2_i32_9 : BitVec 32 := 2#32
  let c1_i32_10 : BitVec 32 := 1#32
  let v17 : BitVec 32 := Scalar.select v16 c2_i32_9 c1_i32_10
  let c1_i32_40 : BitVec 32 := 1#32
  let v64 : BitVec 32 := Scalar.muli v17 c1_i32_40
  let v65 : BitVec 32 := Scalar.addi v63 v64
  v65.toNat
def k0_dev5 (d0 : Dev nD) : Nat :=
  let c0_i32_43 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_42 : BitVec 32 := 16#32
  let v66 : BitVec 32 := Scalar.muli v2 c16_i32_42
  let v67 : BitVec 32 := Scalar.addi c0_i32_43 v66
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_11 : BitVec 32 := 1#32
  let v18 : BitVec 32 := Scalar.addi v5 c1_i32_11
  let c2_i32_18 : BitVec 32 := 2#32
  let c2_i32_12 : BitVec 32 := 2#32
  let c0_i32_13 : BitVec 32 := 0#32
  let v19 : BitVec 1 := Scalar.cmpi .eq c2_i32_12 c0_i32_13
  let c1_i32_14 : BitVec 32 := 1#32
  let v20 : BitVec 32 := Scalar.select v19 c1_i32_14 c2_i32_12
  let v21 : BitVec 32 := Scalar.remsi v5 v20
  let c0_i32_16 : BitVec 32 := 0#32
  let v23 : BitVec 1 := Scalar.cmpi .slt v21 c0_i32_16
  let c0_i32_17 : BitVec 32 := 0#32
  let v24 : BitVec 1 := Scalar.cmpi .slt v20 c0_i32_17
  let v25 : BitVec 1 := Scalar.xori v23 v24
  let c0_i32_15 : BitVec 32 := 0#32
  let v22 : BitVec 1 := Scalar.cmpi .ne v21 c0_i32_15
  let v26 : BitVec 1 := Scalar.andi v25 v22
  let v27 : BitVec 32 := Scalar.addi v21 v20
  let v28 : BitVec 32 := Scalar.select v26 v27 v21
  let v29 : BitVec 32 := Scalar.muli c2_i32_18 v28
  let v30 : BitVec 32 := Scalar.subi v18 v29
  let c4_i32_44 : BitVec 32 := 4#32
  let v68 : BitVec 32 := Scalar.muli v30 c4_i32_44
  let v69 : BitVec 32 := Scalar.addi v67 v68
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_45 : BitVec 32 := 1#32
  let v70 : BitVec 32 := Scalar.muli v8 c1_i32_45
  let v71 : BitVec 32 := Scalar.addi v69 v70
  v71.toNat
def k0_cond3 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .eq v8 c0_i32
  let c3_i32 : BitVec 32 := 3#32
  let v10 : BitVec 1 := Scalar.cmpi .eq v8 c3_i32
  let v11 : BitVec 1 := Scalar.ori v9 v10
  let v49 : BitVec 32 := Scalar.extui v11
  let c0_i32_28 : BitVec 32 := 0#32
  let v50 : BitVec 1 := Scalar.cmpi .ne v49 c0_i32_28
  v50

def k0_off1 (d0 : Dev nD) (c0_i32_32 : BitVec 32) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_19 : BitVec 32 := 2#32
  let c0_i32_20 : BitVec 32 := 0#32
  let v31 : BitVec 1 := Scalar.cmpi .eq c2_i32_19 c0_i32_20
  let c1_i32_21 : BitVec 32 := 1#32
  let v32 : BitVec 32 := Scalar.select v31 c1_i32_21 c2_i32_19
  let v33 : BitVec 32 := Scalar.remsi v5 v32
  let c0_i32_23 : BitVec 32 := 0#32
  let v35 : BitVec 1 := Scalar.cmpi .slt v33 c0_i32_23
  let c0_i32_24 : BitVec 32 := 0#32
  let v36 : BitVec 1 := Scalar.cmpi .slt v32 c0_i32_24
  let v37 : BitVec 1 := Scalar.xori v35 v36
  let c0_i32_22 : BitVec 32 := 0#32
  let v34 : BitVec 1 := Scalar.cmpi .ne v33 c0_i32_22
  let v38 : BitVec 1 := Scalar.andi v37 v34
  let v39 : BitVec 32 := Scalar.addi v33 v32
  let v40 : BitVec 32 := Scalar.select v38 v39 v33
  let c1024_i32 : BitVec 32 := 1024#32
  let v41 : BitVec 32 := Scalar.muli v40 c1024_i32
  let v55 : BitVec 32 := Scalar.addi v41 c0_i32_32
  let c0_i32_39 : BitVec 32 := 0#32
  ![v55.toNat, 0]
def k0_dev6 (d0 : Dev nD) : Nat :=
  let c0_i32_36 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_35 : BitVec 32 := 16#32
  let v56 : BitVec 32 := Scalar.muli v2 c16_i32_35
  let v57 : BitVec 32 := Scalar.addi c0_i32_36 v56
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_37 : BitVec 32 := 4#32
  let v58 : BitVec 32 := Scalar.muli v5 c4_i32_37
  let v59 : BitVec 32 := Scalar.addi v57 v58
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_2 : BitVec 32 := 0#32
  let v12 : BitVec 1 := Scalar.cmpi .eq v8 c0_i32_2
  let c1_i32_3 : BitVec 32 := 1#32
  let c2_i32_4 : BitVec 32 := 2#32
  let v13 : BitVec 32 := Scalar.select v12 c1_i32_3 c2_i32_4
  let c1_i32_38 : BitVec 32 := 1#32
  let v60 : BitVec 32 := Scalar.muli v13 c1_i32_38
  let v61 : BitVec 32 := Scalar.addi v59 v60
  v61.toNat
def k0_dev7 (d0 : Dev nD) : Nat :=
  let c0_i32_45 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_44 : BitVec 32 := 16#32
  let v70 : BitVec 32 := Scalar.muli v2 c16_i32_44
  let v71 : BitVec 32 := Scalar.addi c0_i32_45 v70
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_46 : BitVec 32 := 4#32
  let v72 : BitVec 32 := Scalar.muli v5 c4_i32_46
  let v73 : BitVec 32 := Scalar.addi v71 v72
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_2 : BitVec 32 := 0#32
  let v12 : BitVec 1 := Scalar.cmpi .eq v8 c0_i32_2
  let c1_i32_3 : BitVec 32 := 1#32
  let c2_i32_4 : BitVec 32 := 2#32
  let v13 : BitVec 32 := Scalar.select v12 c1_i32_3 c2_i32_4
  let c1_i32_47 : BitVec 32 := 1#32
  let v74 : BitVec 32 := Scalar.muli v13 c1_i32_47
  let v75 : BitVec 32 := Scalar.addi v73 v74
  v75.toNat
def k0_dev8 (d0 : Dev nD) : Nat :=
  let c0_i32_54 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_53 : BitVec 32 := 16#32
  let v84 : BitVec 32 := Scalar.muli v2 c16_i32_53
  let v85 : BitVec 32 := Scalar.addi c0_i32_54 v84
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_55 : BitVec 32 := 4#32
  let v86 : BitVec 32 := Scalar.muli v5 c4_i32_55
  let v87 : BitVec 32 := Scalar.addi v85 v86
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_2 : BitVec 32 := 0#32
  let v12 : BitVec 1 := Scalar.cmpi .eq v8 c0_i32_2
  let c1_i32_3 : BitVec 32 := 1#32
  let c2_i32_4 : BitVec 32 := 2#32
  let v13 : BitVec 32 := Scalar.select v12 c1_i32_3 c2_i32_4
  let c1_i32_56 : BitVec 32 := 1#32
  let v88 : BitVec 32 := Scalar.muli v13 c1_i32_56
  let v89 : BitVec 32 := Scalar.addi v87 v88
  v89.toNat
def k0_dev9 (d0 : Dev nD) : Nat :=
  let c0_i32_63 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_62 : BitVec 32 := 16#32
  let v98 : BitVec 32 := Scalar.muli v2 c16_i32_62
  let v99 : BitVec 32 := Scalar.addi c0_i32_63 v98
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_64 : BitVec 32 := 4#32
  let v100 : BitVec 32 := Scalar.muli v5 c4_i32_64
  let v101 : BitVec 32 := Scalar.addi v99 v100
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_2 : BitVec 32 := 0#32
  let v12 : BitVec 1 := Scalar.cmpi .eq v8 c0_i32_2
  let c1_i32_3 : BitVec 32 := 1#32
  let c2_i32_4 : BitVec 32 := 2#32
  let v13 : BitVec 32 := Scalar.select v12 c1_i32_3 c2_i32_4
  let c1_i32_65 : BitVec 32 := 1#32
  let v102 : BitVec 32 := Scalar.muli v13 c1_i32_65
  let v103 : BitVec 32 := Scalar.addi v101 v102
  v103.toNat
def k0_dev10 (d0 : Dev nD) : Nat :=
  let c0_i32_72 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_71 : BitVec 32 := 16#32
  let v112 : BitVec 32 := Scalar.muli v2 c16_i32_71
  let v113 : BitVec 32 := Scalar.addi c0_i32_72 v112
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_73 : BitVec 32 := 4#32
  let v114 : BitVec 32 := Scalar.muli v5 c4_i32_73
  let v115 : BitVec 32 := Scalar.addi v113 v114
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_2 : BitVec 32 := 0#32
  let v12 : BitVec 1 := Scalar.cmpi .eq v8 c0_i32_2
  let c1_i32_3 : BitVec 32 := 1#32
  let c2_i32_4 : BitVec 32 := 2#32
  let v13 : BitVec 32 := Scalar.select v12 c1_i32_3 c2_i32_4
  let c1_i32_74 : BitVec 32 := 1#32
  let v116 : BitVec 32 := Scalar.muli v13 c1_i32_74
  let v117 : BitVec 32 := Scalar.addi v115 v116
  v117.toNat
def k0_dev11 (d0 : Dev nD) : Nat :=
  let c0_i32_80 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_79 : BitVec 32 := 16#32
  let v126 : BitVec 32 := Scalar.muli v2 c16_i32_79
  let v127 : BitVec 32 := Scalar.addi c0_i32_80 v126
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_81 : BitVec 32 := 4#32
  let v128 : BitVec 32 := Scalar.muli v5 c4_i32_81
  let v129 : BitVec 32 := Scalar.addi v127 v128
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_2 : BitVec 32 := 0#32
  let v12 : BitVec 1 := Scalar.cmpi .eq v8 c0_i32_2
  let c1_i32_3 : BitVec 32 := 1#32
  let c2_i32_4 : BitVec 32 := 2#32
  let v13 : BitVec 32 := Scalar.select v12 c1_i32_3 c2_i32_4
  let c1_i32_82 : BitVec 32 := 1#32
  let v130 : BitVec 32 := Scalar.muli v13 c1_i32_82
  let v131 : BitVec 32 := Scalar.addi v129 v130
  v131.toNat
def k0_dev12 (d0 : Dev nD) : Nat :=
  let c0_i32_88 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_87 : BitVec 32 := 16#32
  let v140 : BitVec 32 := Scalar.muli v2 c16_i32_87
  let v141 : BitVec 32 := Scalar.addi c0_i32_88 v140
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_89 : BitVec 32 := 4#32
  let v142 : BitVec 32 := Scalar.muli v5 c4_i32_89
  let v143 : BitVec 32 := Scalar.addi v141 v142
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_2 : BitVec 32 := 0#32
  let v12 : BitVec 1 := Scalar.cmpi .eq v8 c0_i32_2
  let c1_i32_3 : BitVec 32 := 1#32
  let c2_i32_4 : BitVec 32 := 2#32
  let v13 : BitVec 32 := Scalar.select v12 c1_i32_3 c2_i32_4
  let c1_i32_90 : BitVec 32 := 1#32
  let v144 : BitVec 32 := Scalar.muli v13 c1_i32_90
  let v145 : BitVec 32 := Scalar.addi v143 v144
  v145.toNat
def k0_dev13 (d0 : Dev nD) : Nat :=
  let c0_i32_96 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_95 : BitVec 32 := 16#32
  let v154 : BitVec 32 := Scalar.muli v2 c16_i32_95
  let v155 : BitVec 32 := Scalar.addi c0_i32_96 v154
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_97 : BitVec 32 := 4#32
  let v156 : BitVec 32 := Scalar.muli v5 c4_i32_97
  let v157 : BitVec 32 := Scalar.addi v155 v156
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_2 : BitVec 32 := 0#32
  let v12 : BitVec 1 := Scalar.cmpi .eq v8 c0_i32_2
  let c1_i32_3 : BitVec 32 := 1#32
  let c2_i32_4 : BitVec 32 := 2#32
  let v13 : BitVec 32 := Scalar.select v12 c1_i32_3 c2_i32_4
  let c1_i32_98 : BitVec 32 := 1#32
  let v158 : BitVec 32 := Scalar.muli v13 c1_i32_98
  let v159 : BitVec 32 := Scalar.addi v157 v158
  v159.toNat
def k0_dev14 (d0 : Dev nD) : Nat :=
  let c0_i32_116 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_115 : BitVec 32 := 16#32
  let v180 : BitVec 32 := Scalar.muli v2 c16_i32_115
  let v181 : BitVec 32 := Scalar.addi c0_i32_116 v180
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_11 : BitVec 32 := 1#32
  let v18 : BitVec 32 := Scalar.addi v5 c1_i32_11
  let c2_i32_18 : BitVec 32 := 2#32
  let c2_i32_12 : BitVec 32 := 2#32
  let c0_i32_13 : BitVec 32 := 0#32
  let v19 : BitVec 1 := Scalar.cmpi .eq c2_i32_12 c0_i32_13
  let c1_i32_14 : BitVec 32 := 1#32
  let v20 : BitVec 32 := Scalar.select v19 c1_i32_14 c2_i32_12
  let v21 : BitVec 32 := Scalar.remsi v5 v20
  let c0_i32_16 : BitVec 32 := 0#32
  let v23 : BitVec 1 := Scalar.cmpi .slt v21 c0_i32_16
  let c0_i32_17 : BitVec 32 := 0#32
  let v24 : BitVec 1 := Scalar.cmpi .slt v20 c0_i32_17
  let v25 : BitVec 1 := Scalar.xori v23 v24
  let c0_i32_15 : BitVec 32 := 0#32
  let v22 : BitVec 1 := Scalar.cmpi .ne v21 c0_i32_15
  let v26 : BitVec 1 := Scalar.andi v25 v22
  let v27 : BitVec 32 := Scalar.addi v21 v20
  let v28 : BitVec 32 := Scalar.select v26 v27 v21
  let v29 : BitVec 32 := Scalar.muli c2_i32_18 v28
  let v30 : BitVec 32 := Scalar.subi v18 v29
  let c4_i32_117 : BitVec 32 := 4#32
  let v182 : BitVec 32 := Scalar.muli v30 c4_i32_117
  let v183 : BitVec 32 := Scalar.addi v181 v182
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_118 : BitVec 32 := 1#32
  let v184 : BitVec 32 := Scalar.muli v8 c1_i32_118
  let v185 : BitVec 32 := Scalar.addi v183 v184
  v185.toNat
def k0_dev15 (d0 : Dev nD) : Nat :=
  let c0_i32_136 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_135 : BitVec 32 := 16#32
  let v206 : BitVec 32 := Scalar.muli v2 c16_i32_135
  let v207 : BitVec 32 := Scalar.addi c0_i32_136 v206
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_11 : BitVec 32 := 1#32
  let v18 : BitVec 32 := Scalar.addi v5 c1_i32_11
  let c2_i32_18 : BitVec 32 := 2#32
  let c2_i32_12 : BitVec 32 := 2#32
  let c0_i32_13 : BitVec 32 := 0#32
  let v19 : BitVec 1 := Scalar.cmpi .eq c2_i32_12 c0_i32_13
  let c1_i32_14 : BitVec 32 := 1#32
  let v20 : BitVec 32 := Scalar.select v19 c1_i32_14 c2_i32_12
  let v21 : BitVec 32 := Scalar.remsi v5 v20
  let c0_i32_16 : BitVec 32 := 0#32
  let v23 : BitVec 1 := Scalar.cmpi .slt v21 c0_i32_16
  let c0_i32_17 : BitVec 32 := 0#32
  let v24 : BitVec 1 := Scalar.cmpi .slt v20 c0_i32_17
  let v25 : BitVec 1 := Scalar.xori v23 v24
  let c0_i32_15 : BitVec 32 := 0#32
  let v22 : BitVec 1 := Scalar.cmpi .ne v21 c0_i32_15
  let v26 : BitVec 1 := Scalar.andi v25 v22
  let v27 : BitVec 32 := Scalar.addi v21 v20
  let v28 : BitVec 32 := Scalar.select v26 v27 v21
  let v29 : BitVec 32 := Scalar.muli c2_i32_18 v28
  let v30 : BitVec 32 := Scalar.subi v18 v29
  let c4_i32_137 : BitVec 32 := 4#32
  let v208 : BitVec 32 := Scalar.muli v30 c4_i32_137
  let v209 : BitVec 32 := Scalar.addi v207 v208
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_138 : BitVec 32 := 1#32
  let v210 : BitVec 32 := Scalar.muli v8 c1_i32_138
  let v211 : BitVec 32 := Scalar.addi v209 v210
  v211.toNat
def k0_dev16 (d0 : Dev nD) : Nat :=
  let c0_i32_156 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_155 : BitVec 32 := 16#32
  let v232 : BitVec 32 := Scalar.muli v2 c16_i32_155
  let v233 : BitVec 32 := Scalar.addi c0_i32_156 v232
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_11 : BitVec 32 := 1#32
  let v18 : BitVec 32 := Scalar.addi v5 c1_i32_11
  let c2_i32_18 : BitVec 32 := 2#32
  let c2_i32_12 : BitVec 32 := 2#32
  let c0_i32_13 : BitVec 32 := 0#32
  let v19 : BitVec 1 := Scalar.cmpi .eq c2_i32_12 c0_i32_13
  let c1_i32_14 : BitVec 32 := 1#32
  let v20 : BitVec 32 := Scalar.select v19 c1_i32_14 c2_i32_12
  let v21 : BitVec 32 := Scalar.remsi v5 v20
  let c0_i32_16 : BitVec 32 := 0#32
  let v23 : BitVec 1 := Scalar.cmpi .slt v21 c0_i32_16
  let c0_i32_17 : BitVec 32 := 0#32
  let v24 : BitVec 1 := Scalar.cmpi .slt v20 c0_i32_17
  let v25 : BitVec 1 := Scalar.xori v23 v24
  let c0_i32_15 : BitVec 32 := 0#32
  let v22 : BitVec 1 := Scalar.cmpi .ne v21 c0_i32_15
  let v26 : BitVec 1 := Scalar.andi v25 v22
  let v27 : BitVec 32 := Scalar.addi v21 v20
  let v28 : BitVec 32 := Scalar.select v26 v27 v21
  let v29 : BitVec 32 := Scalar.muli c2_i32_18 v28
  let v30 : BitVec 32 := Scalar.subi v18 v29
  let c4_i32_157 : BitVec 32 := 4#32
  let v234 : BitVec 32 := Scalar.muli v30 c4_i32_157
  let v235 : BitVec 32 := Scalar.addi v233 v234
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_158 : BitVec 32 := 1#32
  let v236 : BitVec 32 := Scalar.muli v8 c1_i32_158
  let v237 : BitVec 32 := Scalar.addi v235 v236
  v237.toNat
def k0_dev17 (d0 : Dev nD) : Nat :=
  let c0_i32_176 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_175 : BitVec 32 := 16#32
  let v258 : BitVec 32 := Scalar.muli v2 c16_i32_175
  let v259 : BitVec 32 := Scalar.addi c0_i32_176 v258
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_11 : BitVec 32 := 1#32
  let v18 : BitVec 32 := Scalar.addi v5 c1_i32_11
  let c2_i32_18 : BitVec 32 := 2#32
  let c2_i32_12 : BitVec 32 := 2#32
  let c0_i32_13 : BitVec 32 := 0#32
  let v19 : BitVec 1 := Scalar.cmpi .eq c2_i32_12 c0_i32_13
  let c1_i32_14 : BitVec 32 := 1#32
  let v20 : BitVec 32 := Scalar.select v19 c1_i32_14 c2_i32_12
  let v21 : BitVec 32 := Scalar.remsi v5 v20
  let c0_i32_16 : BitVec 32 := 0#32
  let v23 : BitVec 1 := Scalar.cmpi .slt v21 c0_i32_16
  let c0_i32_17 : BitVec 32 := 0#32
  let v24 : BitVec 1 := Scalar.cmpi .slt v20 c0_i32_17
  let v25 : BitVec 1 := Scalar.xori v23 v24
  let c0_i32_15 : BitVec 32 := 0#32
  let v22 : BitVec 1 := Scalar.cmpi .ne v21 c0_i32_15
  let v26 : BitVec 1 := Scalar.andi v25 v22
  let v27 : BitVec 32 := Scalar.addi v21 v20
  let v28 : BitVec 32 := Scalar.select v26 v27 v21
  let v29 : BitVec 32 := Scalar.muli c2_i32_18 v28
  let v30 : BitVec 32 := Scalar.subi v18 v29
  let c4_i32_177 : BitVec 32 := 4#32
  let v260 : BitVec 32 := Scalar.muli v30 c4_i32_177
  let v261 : BitVec 32 := Scalar.addi v259 v260
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_178 : BitVec 32 := 1#32
  let v262 : BitVec 32 := Scalar.muli v8 c1_i32_178
  let v263 : BitVec 32 := Scalar.addi v261 v262
  v263.toNat
def k0_dev18 (d0 : Dev nD) : Nat :=
  let c0_i32_196 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_195 : BitVec 32 := 16#32
  let v284 : BitVec 32 := Scalar.muli v2 c16_i32_195
  let v285 : BitVec 32 := Scalar.addi c0_i32_196 v284
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_11 : BitVec 32 := 1#32
  let v18 : BitVec 32 := Scalar.addi v5 c1_i32_11
  let c2_i32_18 : BitVec 32 := 2#32
  let c2_i32_12 : BitVec 32 := 2#32
  let c0_i32_13 : BitVec 32 := 0#32
  let v19 : BitVec 1 := Scalar.cmpi .eq c2_i32_12 c0_i32_13
  let c1_i32_14 : BitVec 32 := 1#32
  let v20 : BitVec 32 := Scalar.select v19 c1_i32_14 c2_i32_12
  let v21 : BitVec 32 := Scalar.remsi v5 v20
  let c0_i32_16 : BitVec 32 := 0#32
  let v23 : BitVec 1 := Scalar.cmpi .slt v21 c0_i32_16
  let c0_i32_17 : BitVec 32 := 0#32
  let v24 : BitVec 1 := Scalar.cmpi .slt v20 c0_i32_17
  let v25 : BitVec 1 := Scalar.xori v23 v24
  let c0_i32_15 : BitVec 32 := 0#32
  let v22 : BitVec 1 := Scalar.cmpi .ne v21 c0_i32_15
  let v26 : BitVec 1 := Scalar.andi v25 v22
  let v27 : BitVec 32 := Scalar.addi v21 v20
  let v28 : BitVec 32 := Scalar.select v26 v27 v21
  let v29 : BitVec 32 := Scalar.muli c2_i32_18 v28
  let v30 : BitVec 32 := Scalar.subi v18 v29
  let c4_i32_197 : BitVec 32 := 4#32
  let v286 : BitVec 32 := Scalar.muli v30 c4_i32_197
  let v287 : BitVec 32 := Scalar.addi v285 v286
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_198 : BitVec 32 := 1#32
  let v288 : BitVec 32 := Scalar.muli v8 c1_i32_198
  let v289 : BitVec 32 := Scalar.addi v287 v288
  v289.toNat
def k0_dev19 (d0 : Dev nD) : Nat :=
  let c0_i32_216 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_215 : BitVec 32 := 16#32
  let v310 : BitVec 32 := Scalar.muli v2 c16_i32_215
  let v311 : BitVec 32 := Scalar.addi c0_i32_216 v310
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_11 : BitVec 32 := 1#32
  let v18 : BitVec 32 := Scalar.addi v5 c1_i32_11
  let c2_i32_18 : BitVec 32 := 2#32
  let c2_i32_12 : BitVec 32 := 2#32
  let c0_i32_13 : BitVec 32 := 0#32
  let v19 : BitVec 1 := Scalar.cmpi .eq c2_i32_12 c0_i32_13
  let c1_i32_14 : BitVec 32 := 1#32
  let v20 : BitVec 32 := Scalar.select v19 c1_i32_14 c2_i32_12
  let v21 : BitVec 32 := Scalar.remsi v5 v20
  let c0_i32_16 : BitVec 32 := 0#32
  let v23 : BitVec 1 := Scalar.cmpi .slt v21 c0_i32_16
  let c0_i32_17 : BitVec 32 := 0#32
  let v24 : BitVec 1 := Scalar.cmpi .slt v20 c0_i32_17
  let v25 : BitVec 1 := Scalar.xori v23 v24
  let c0_i32_15 : BitVec 32 := 0#32
  let v22 : BitVec 1 := Scalar.cmpi .ne v21 c0_i32_15
  let v26 : BitVec 1 := Scalar.andi v25 v22
  let v27 : BitVec 32 := Scalar.addi v21 v20
  let v28 : BitVec 32 := Scalar.select v26 v27 v21
  let v29 : BitVec 32 := Scalar.muli c2_i32_18 v28
  let v30 : BitVec 32 := Scalar.subi v18 v29
  let c4_i32_217 : BitVec 32 := 4#32
  let v312 : BitVec 32 := Scalar.muli v30 c4_i32_217
  let v313 : BitVec 32 := Scalar.addi v311 v312
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_218 : BitVec 32 := 1#32
  let v314 : BitVec 32 := Scalar.muli v8 c1_i32_218
  let v315 : BitVec 32 := Scalar.addi v313 v314
  v315.toNat
def k0_dev20 (d0 : Dev nD) : Nat :=
  let c0_i32_236 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_235 : BitVec 32 := 16#32
  let v336 : BitVec 32 := Scalar.muli v2 c16_i32_235
  let v337 : BitVec 32 := Scalar.addi c0_i32_236 v336
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_11 : BitVec 32 := 1#32
  let v18 : BitVec 32 := Scalar.addi v5 c1_i32_11
  let c2_i32_18 : BitVec 32 := 2#32
  let c2_i32_12 : BitVec 32 := 2#32
  let c0_i32_13 : BitVec 32 := 0#32
  let v19 : BitVec 1 := Scalar.cmpi .eq c2_i32_12 c0_i32_13
  let c1_i32_14 : BitVec 32 := 1#32
  let v20 : BitVec 32 := Scalar.select v19 c1_i32_14 c2_i32_12
  let v21 : BitVec 32 := Scalar.remsi v5 v20
  let c0_i32_16 : BitVec 32 := 0#32
  let v23 : BitVec 1 := Scalar.cmpi .slt v21 c0_i32_16
  let c0_i32_17 : BitVec 32 := 0#32
  let v24 : BitVec 1 := Scalar.cmpi .slt v20 c0_i32_17
  let v25 : BitVec 1 := Scalar.xori v23 v24
  let c0_i32_15 : BitVec 32 := 0#32
  let v22 : BitVec 1 := Scalar.cmpi .ne v21 c0_i32_15
  let v26 : BitVec 1 := Scalar.andi v25 v22
  let v27 : BitVec 32 := Scalar.addi v21 v20
  let v28 : BitVec 32 := Scalar.select v26 v27 v21
  let v29 : BitVec 32 := Scalar.muli c2_i32_18 v28
  let v30 : BitVec 32 := Scalar.subi v18 v29
  let c4_i32_237 : BitVec 32 := 4#32
  let v338 : BitVec 32 := Scalar.muli v30 c4_i32_237
  let v339 : BitVec 32 := Scalar.addi v337 v338
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_238 : BitVec 32 := 1#32
  let v340 : BitVec 32 := Scalar.muli v8 c1_i32_238
  let v341 : BitVec 32 := Scalar.addi v339 v340
  v341.toNat
def k0_dev21 (d0 : Dev nD) : Nat :=
  let c0_i32_256 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_255 : BitVec 32 := 16#32
  let v362 : BitVec 32 := Scalar.muli v2 c16_i32_255
  let v363 : BitVec 32 := Scalar.addi c0_i32_256 v362
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_11 : BitVec 32 := 1#32
  let v18 : BitVec 32 := Scalar.addi v5 c1_i32_11
  let c2_i32_18 : BitVec 32 := 2#32
  let c2_i32_12 : BitVec 32 := 2#32
  let c0_i32_13 : BitVec 32 := 0#32
  let v19 : BitVec 1 := Scalar.cmpi .eq c2_i32_12 c0_i32_13
  let c1_i32_14 : BitVec 32 := 1#32
  let v20 : BitVec 32 := Scalar.select v19 c1_i32_14 c2_i32_12
  let v21 : BitVec 32 := Scalar.remsi v5 v20
  let c0_i32_16 : BitVec 32 := 0#32
  let v23 : BitVec 1 := Scalar.cmpi .slt v21 c0_i32_16
  let c0_i32_17 : BitVec 32 := 0#32
  let v24 : BitVec 1 := Scalar.cmpi .slt v20 c0_i32_17
  let v25 : BitVec 1 := Scalar.xori v23 v24
  let c0_i32_15 : BitVec 32 := 0#32
  let v22 : BitVec 1 := Scalar.cmpi .ne v21 c0_i32_15
  let v26 : BitVec 1 := Scalar.andi v25 v22
  let v27 : BitVec 32 := Scalar.addi v21 v20
  let v28 : BitVec 32 := Scalar.select v26 v27 v21
  let v29 : BitVec 32 := Scalar.muli c2_i32_18 v28
  let v30 : BitVec 32 := Scalar.subi v18 v29
  let c4_i32_257 : BitVec 32 := 4#32
  let v364 : BitVec 32 := Scalar.muli v30 c4_i32_257
  let v365 : BitVec 32 := Scalar.addi v363 v364
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_258 : BitVec 32 := 1#32
  let v366 : BitVec 32 := Scalar.muli v8 c1_i32_258
  let v367 : BitVec 32 := Scalar.addi v365 v366
  v367.toNat
def k0_off2 (d0 : Dev nD) (c0_i32_262 : BitVec 32) : Fin 2 → Nat :=
  let c1024_i32_25 : BitVec 32 := 1024#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_19 : BitVec 32 := 2#32
  let c0_i32_20 : BitVec 32 := 0#32
  let v31 : BitVec 1 := Scalar.cmpi .eq c2_i32_19 c0_i32_20
  let c1_i32_21 : BitVec 32 := 1#32
  let v32 : BitVec 32 := Scalar.select v31 c1_i32_21 c2_i32_19
  let v33 : BitVec 32 := Scalar.remsi v5 v32
  let c0_i32_23 : BitVec 32 := 0#32
  let v35 : BitVec 1 := Scalar.cmpi .slt v33 c0_i32_23
  let c0_i32_24 : BitVec 32 := 0#32
  let v36 : BitVec 1 := Scalar.cmpi .slt v32 c0_i32_24
  let v37 : BitVec 1 := Scalar.xori v35 v36
  let c0_i32_22 : BitVec 32 := 0#32
  let v34 : BitVec 1 := Scalar.cmpi .ne v33 c0_i32_22
  let v38 : BitVec 1 := Scalar.andi v37 v34
  let v39 : BitVec 32 := Scalar.addi v33 v32
  let v40 : BitVec 32 := Scalar.select v38 v39 v33
  let c1024_i32 : BitVec 32 := 1024#32
  let v41 : BitVec 32 := Scalar.muli v40 c1024_i32
  let v42 : BitVec 32 := Scalar.subi c1024_i32_25 v41
  let v375 : BitVec 32 := Scalar.addi v42 c0_i32_262
  let c0_i32_269 : BitVec 32 := 0#32
  ![v375.toNat, 0]
def k0_cond4 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v9 : BitVec 1 := Scalar.cmpi .eq v8 c0_i32
  let c3_i32 : BitVec 32 := 3#32
  let v10 : BitVec 1 := Scalar.cmpi .eq v8 c3_i32
  let v11 : BitVec 1 := Scalar.ori v9 v10
  let true_29 : BitVec 1 := 1#1
  let v51 : BitVec 1 := Scalar.xori v11 true_29
  let v52 : BitVec 32 := Scalar.extui v51
  let c0_i32_30 : BitVec 32 := 0#32
  let v53 : BitVec 1 := Scalar.cmpi .ne v52 c0_i32_30
  v53

def k0_off3 (d0 : Dev nD) (c0_i32_32 : BitVec 32) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_19 : BitVec 32 := 2#32
  let c0_i32_20 : BitVec 32 := 0#32
  let v31 : BitVec 1 := Scalar.cmpi .eq c2_i32_19 c0_i32_20
  let c1_i32_21 : BitVec 32 := 1#32
  let v32 : BitVec 32 := Scalar.select v31 c1_i32_21 c2_i32_19
  let v33 : BitVec 32 := Scalar.remsi v5 v32
  let c0_i32_23 : BitVec 32 := 0#32
  let v35 : BitVec 1 := Scalar.cmpi .slt v33 c0_i32_23
  let c0_i32_24 : BitVec 32 := 0#32
  let v36 : BitVec 1 := Scalar.cmpi .slt v32 c0_i32_24
  let v37 : BitVec 1 := Scalar.xori v35 v36
  let c0_i32_22 : BitVec 32 := 0#32
  let v34 : BitVec 1 := Scalar.cmpi .ne v33 c0_i32_22
  let v38 : BitVec 1 := Scalar.andi v37 v34
  let v39 : BitVec 32 := Scalar.addi v33 v32
  let v40 : BitVec 32 := Scalar.select v38 v39 v33
  let c1024_i32 : BitVec 32 := 1024#32
  let v41 : BitVec 32 := Scalar.muli v40 c1024_i32
  let v55 : BitVec 32 := Scalar.addi v41 c0_i32_32
  let c0_i32_39 : BitVec 32 := 0#32
  ![v55.toNat, 0]
def k0_off4 (d0 : Dev nD) (c0_i32_41 : BitVec 32) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_19 : BitVec 32 := 2#32
  let c0_i32_20 : BitVec 32 := 0#32
  let v31 : BitVec 1 := Scalar.cmpi .eq c2_i32_19 c0_i32_20
  let c1_i32_21 : BitVec 32 := 1#32
  let v32 : BitVec 32 := Scalar.select v31 c1_i32_21 c2_i32_19
  let v33 : BitVec 32 := Scalar.remsi v5 v32
  let c0_i32_23 : BitVec 32 := 0#32
  let v35 : BitVec 1 := Scalar.cmpi .slt v33 c0_i32_23
  let c0_i32_24 : BitVec 32 := 0#32
  let v36 : BitVec 1 := Scalar.cmpi .slt v32 c0_i32_24
  let v37 : BitVec 1 := Scalar.xori v35 v36
  let c0_i32_22 : BitVec 32 := 0#32
  let v34 : BitVec 1 := Scalar.cmpi .ne v33 c0_i32_22
  let v38 : BitVec 1 := Scalar.andi v37 v34
  let v39 : BitVec 32 := Scalar.addi v33 v32
  let v40 : BitVec 32 := Scalar.select v38 v39 v33
  let c1024_i32 : BitVec 32 := 1024#32
  let v41 : BitVec 32 := Scalar.muli v40 c1024_i32
  let v66 : BitVec 32 := Scalar.addi v41 c0_i32_41
  let v67 : Index := Scalar.indexCast v66
  let c0 : Index := 0#32
  ![v67.toNat, 0]
def k0_dev22 (d0 : Dev nD) : Nat :=
  let c0_i32_51 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_50 : BitVec 32 := 16#32
  let v79 : BitVec 32 := Scalar.muli v2 c16_i32_50
  let v80 : BitVec 32 := Scalar.addi c0_i32_51 v79
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_52 : BitVec 32 := 4#32
  let v81 : BitVec 32 := Scalar.muli v5 c4_i32_52
  let v82 : BitVec 32 := Scalar.addi v80 v81
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v16 : BitVec 1 := Scalar.cmpi .eq v8 c1_i32_8
  let c2_i32_9 : BitVec 32 := 2#32
  let c1_i32_10 : BitVec 32 := 1#32
  let v17 : BitVec 32 := Scalar.select v16 c2_i32_9 c1_i32_10
  let c1_i32_53 : BitVec 32 := 1#32
  let v83 : BitVec 32 := Scalar.muli v17 c1_i32_53
  let v84 : BitVec 32 := Scalar.addi v82 v83
  v84.toNat
def k0_dev23 (d0 : Dev nD) : Nat :=
  let c0_i32_77 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_76 : BitVec 32 := 16#32
  let v117 : BitVec 32 := Scalar.muli v2 c16_i32_76
  let v118 : BitVec 32 := Scalar.addi c0_i32_77 v117
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_78 : BitVec 32 := 4#32
  let v119 : BitVec 32 := Scalar.muli v5 c4_i32_78
  let v120 : BitVec 32 := Scalar.addi v118 v119
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v16 : BitVec 1 := Scalar.cmpi .eq v8 c1_i32_8
  let c2_i32_9 : BitVec 32 := 2#32
  let c1_i32_10 : BitVec 32 := 1#32
  let v17 : BitVec 32 := Scalar.select v16 c2_i32_9 c1_i32_10
  let c1_i32_79 : BitVec 32 := 1#32
  let v121 : BitVec 32 := Scalar.muli v17 c1_i32_79
  let v122 : BitVec 32 := Scalar.addi v120 v121
  v122.toNat
def k0_dev24 (d0 : Dev nD) : Nat :=
  let c0_i32_112 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_111 : BitVec 32 := 16#32
  let v158 : BitVec 32 := Scalar.muli v2 c16_i32_111
  let v159 : BitVec 32 := Scalar.addi c0_i32_112 v158
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_113 : BitVec 32 := 4#32
  let v160 : BitVec 32 := Scalar.muli v5 c4_i32_113
  let v161 : BitVec 32 := Scalar.addi v159 v160
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v14 : BitVec 1 := Scalar.cmpi .eq v8 c1_i32_5
  let c0_i32_6 : BitVec 32 := 0#32
  let c3_i32_7 : BitVec 32 := 3#32
  let v15 : BitVec 32 := Scalar.select v14 c0_i32_6 c3_i32_7
  let c1_i32_114 : BitVec 32 := 1#32
  let v162 : BitVec 32 := Scalar.muli v15 c1_i32_114
  let v163 : BitVec 32 := Scalar.addi v161 v162
  v163.toNat
def k0_dev25 (d0 : Dev nD) : Nat :=
  let c0_i32_122 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_121 : BitVec 32 := 16#32
  let v172 : BitVec 32 := Scalar.muli v2 c16_i32_121
  let v173 : BitVec 32 := Scalar.addi c0_i32_122 v172
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_11 : BitVec 32 := 1#32
  let v18 : BitVec 32 := Scalar.addi v5 c1_i32_11
  let c2_i32_18 : BitVec 32 := 2#32
  let c2_i32_12 : BitVec 32 := 2#32
  let c0_i32_13 : BitVec 32 := 0#32
  let v19 : BitVec 1 := Scalar.cmpi .eq c2_i32_12 c0_i32_13
  let c1_i32_14 : BitVec 32 := 1#32
  let v20 : BitVec 32 := Scalar.select v19 c1_i32_14 c2_i32_12
  let v21 : BitVec 32 := Scalar.remsi v5 v20
  let c0_i32_16 : BitVec 32 := 0#32
  let v23 : BitVec 1 := Scalar.cmpi .slt v21 c0_i32_16
  let c0_i32_17 : BitVec 32 := 0#32
  let v24 : BitVec 1 := Scalar.cmpi .slt v20 c0_i32_17
  let v25 : BitVec 1 := Scalar.xori v23 v24
  let c0_i32_15 : BitVec 32 := 0#32
  let v22 : BitVec 1 := Scalar.cmpi .ne v21 c0_i32_15
  let v26 : BitVec 1 := Scalar.andi v25 v22
  let v27 : BitVec 32 := Scalar.addi v21 v20
  let v28 : BitVec 32 := Scalar.select v26 v27 v21
  let v29 : BitVec 32 := Scalar.muli c2_i32_18 v28
  let v30 : BitVec 32 := Scalar.subi v18 v29
  let c4_i32_123 : BitVec 32 := 4#32
  let v174 : BitVec 32 := Scalar.muli v30 c4_i32_123
  let v175 : BitVec 32 := Scalar.addi v173 v174
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_124 : BitVec 32 := 1#32
  let v176 : BitVec 32 := Scalar.muli v8 c1_i32_124
  let v177 : BitVec 32 := Scalar.addi v175 v176
  v177.toNat
def k0_dev26 (d0 : Dev nD) : Nat :=
  let c0_i32_147 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_146 : BitVec 32 := 16#32
  let v209 : BitVec 32 := Scalar.muli v2 c16_i32_146
  let v210 : BitVec 32 := Scalar.addi c0_i32_147 v209
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_148 : BitVec 32 := 4#32
  let v211 : BitVec 32 := Scalar.muli v5 c4_i32_148
  let v212 : BitVec 32 := Scalar.addi v210 v211
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v16 : BitVec 1 := Scalar.cmpi .eq v8 c1_i32_8
  let c2_i32_9 : BitVec 32 := 2#32
  let c1_i32_10 : BitVec 32 := 1#32
  let v17 : BitVec 32 := Scalar.select v16 c2_i32_9 c1_i32_10
  let c1_i32_149 : BitVec 32 := 1#32
  let v213 : BitVec 32 := Scalar.muli v17 c1_i32_149
  let v214 : BitVec 32 := Scalar.addi v212 v213
  v214.toNat
def k0_dev27 (d0 : Dev nD) : Nat :=
  let c0_i32_181 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_180 : BitVec 32 := 16#32
  let v250 : BitVec 32 := Scalar.muli v2 c16_i32_180
  let v251 : BitVec 32 := Scalar.addi c0_i32_181 v250
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_182 : BitVec 32 := 4#32
  let v252 : BitVec 32 := Scalar.muli v5 c4_i32_182
  let v253 : BitVec 32 := Scalar.addi v251 v252
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v14 : BitVec 1 := Scalar.cmpi .eq v8 c1_i32_5
  let c0_i32_6 : BitVec 32 := 0#32
  let c3_i32_7 : BitVec 32 := 3#32
  let v15 : BitVec 32 := Scalar.select v14 c0_i32_6 c3_i32_7
  let c1_i32_183 : BitVec 32 := 1#32
  let v254 : BitVec 32 := Scalar.muli v15 c1_i32_183
  let v255 : BitVec 32 := Scalar.addi v253 v254
  v255.toNat
def k0_dev28 (d0 : Dev nD) : Nat :=
  let c0_i32_191 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_190 : BitVec 32 := 16#32
  let v264 : BitVec 32 := Scalar.muli v2 c16_i32_190
  let v265 : BitVec 32 := Scalar.addi c0_i32_191 v264
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_11 : BitVec 32 := 1#32
  let v18 : BitVec 32 := Scalar.addi v5 c1_i32_11
  let c2_i32_18 : BitVec 32 := 2#32
  let c2_i32_12 : BitVec 32 := 2#32
  let c0_i32_13 : BitVec 32 := 0#32
  let v19 : BitVec 1 := Scalar.cmpi .eq c2_i32_12 c0_i32_13
  let c1_i32_14 : BitVec 32 := 1#32
  let v20 : BitVec 32 := Scalar.select v19 c1_i32_14 c2_i32_12
  let v21 : BitVec 32 := Scalar.remsi v5 v20
  let c0_i32_16 : BitVec 32 := 0#32
  let v23 : BitVec 1 := Scalar.cmpi .slt v21 c0_i32_16
  let c0_i32_17 : BitVec 32 := 0#32
  let v24 : BitVec 1 := Scalar.cmpi .slt v20 c0_i32_17
  let v25 : BitVec 1 := Scalar.xori v23 v24
  let c0_i32_15 : BitVec 32 := 0#32
  let v22 : BitVec 1 := Scalar.cmpi .ne v21 c0_i32_15
  let v26 : BitVec 1 := Scalar.andi v25 v22
  let v27 : BitVec 32 := Scalar.addi v21 v20
  let v28 : BitVec 32 := Scalar.select v26 v27 v21
  let v29 : BitVec 32 := Scalar.muli c2_i32_18 v28
  let v30 : BitVec 32 := Scalar.subi v18 v29
  let c4_i32_192 : BitVec 32 := 4#32
  let v266 : BitVec 32 := Scalar.muli v30 c4_i32_192
  let v267 : BitVec 32 := Scalar.addi v265 v266
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_193 : BitVec 32 := 1#32
  let v268 : BitVec 32 := Scalar.muli v8 c1_i32_193
  let v269 : BitVec 32 := Scalar.addi v267 v268
  v269.toNat
def k0_dev29 (d0 : Dev nD) : Nat :=
  let c0_i32_216 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_215 : BitVec 32 := 16#32
  let v301 : BitVec 32 := Scalar.muli v2 c16_i32_215
  let v302 : BitVec 32 := Scalar.addi c0_i32_216 v301
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_217 : BitVec 32 := 4#32
  let v303 : BitVec 32 := Scalar.muli v5 c4_i32_217
  let v304 : BitVec 32 := Scalar.addi v302 v303
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v16 : BitVec 1 := Scalar.cmpi .eq v8 c1_i32_8
  let c2_i32_9 : BitVec 32 := 2#32
  let c1_i32_10 : BitVec 32 := 1#32
  let v17 : BitVec 32 := Scalar.select v16 c2_i32_9 c1_i32_10
  let c1_i32_218 : BitVec 32 := 1#32
  let v305 : BitVec 32 := Scalar.muli v17 c1_i32_218
  let v306 : BitVec 32 := Scalar.addi v304 v305
  v306.toNat
def k0_dev30 (d0 : Dev nD) : Nat :=
  let c0_i32_250 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_249 : BitVec 32 := 16#32
  let v342 : BitVec 32 := Scalar.muli v2 c16_i32_249
  let v343 : BitVec 32 := Scalar.addi c0_i32_250 v342
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_251 : BitVec 32 := 4#32
  let v344 : BitVec 32 := Scalar.muli v5 c4_i32_251
  let v345 : BitVec 32 := Scalar.addi v343 v344
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v14 : BitVec 1 := Scalar.cmpi .eq v8 c1_i32_5
  let c0_i32_6 : BitVec 32 := 0#32
  let c3_i32_7 : BitVec 32 := 3#32
  let v15 : BitVec 32 := Scalar.select v14 c0_i32_6 c3_i32_7
  let c1_i32_252 : BitVec 32 := 1#32
  let v346 : BitVec 32 := Scalar.muli v15 c1_i32_252
  let v347 : BitVec 32 := Scalar.addi v345 v346
  v347.toNat
def k0_dev31 (d0 : Dev nD) : Nat :=
  let c0_i32_260 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_259 : BitVec 32 := 16#32
  let v356 : BitVec 32 := Scalar.muli v2 c16_i32_259
  let v357 : BitVec 32 := Scalar.addi c0_i32_260 v356
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_11 : BitVec 32 := 1#32
  let v18 : BitVec 32 := Scalar.addi v5 c1_i32_11
  let c2_i32_18 : BitVec 32 := 2#32
  let c2_i32_12 : BitVec 32 := 2#32
  let c0_i32_13 : BitVec 32 := 0#32
  let v19 : BitVec 1 := Scalar.cmpi .eq c2_i32_12 c0_i32_13
  let c1_i32_14 : BitVec 32 := 1#32
  let v20 : BitVec 32 := Scalar.select v19 c1_i32_14 c2_i32_12
  let v21 : BitVec 32 := Scalar.remsi v5 v20
  let c0_i32_16 : BitVec 32 := 0#32
  let v23 : BitVec 1 := Scalar.cmpi .slt v21 c0_i32_16
  let c0_i32_17 : BitVec 32 := 0#32
  let v24 : BitVec 1 := Scalar.cmpi .slt v20 c0_i32_17
  let v25 : BitVec 1 := Scalar.xori v23 v24
  let c0_i32_15 : BitVec 32 := 0#32
  let v22 : BitVec 1 := Scalar.cmpi .ne v21 c0_i32_15
  let v26 : BitVec 1 := Scalar.andi v25 v22
  let v27 : BitVec 32 := Scalar.addi v21 v20
  let v28 : BitVec 32 := Scalar.select v26 v27 v21
  let v29 : BitVec 32 := Scalar.muli c2_i32_18 v28
  let v30 : BitVec 32 := Scalar.subi v18 v29
  let c4_i32_261 : BitVec 32 := 4#32
  let v358 : BitVec 32 := Scalar.muli v30 c4_i32_261
  let v359 : BitVec 32 := Scalar.addi v357 v358
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_262 : BitVec 32 := 1#32
  let v360 : BitVec 32 := Scalar.muli v8 c1_i32_262
  let v361 : BitVec 32 := Scalar.addi v359 v360
  v361.toNat
def k0_dev32 (d0 : Dev nD) : Nat :=
  let c0_i32_285 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_284 : BitVec 32 := 16#32
  let v393 : BitVec 32 := Scalar.muli v2 c16_i32_284
  let v394 : BitVec 32 := Scalar.addi c0_i32_285 v393
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_286 : BitVec 32 := 4#32
  let v395 : BitVec 32 := Scalar.muli v5 c4_i32_286
  let v396 : BitVec 32 := Scalar.addi v394 v395
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v16 : BitVec 1 := Scalar.cmpi .eq v8 c1_i32_8
  let c2_i32_9 : BitVec 32 := 2#32
  let c1_i32_10 : BitVec 32 := 1#32
  let v17 : BitVec 32 := Scalar.select v16 c2_i32_9 c1_i32_10
  let c1_i32_287 : BitVec 32 := 1#32
  let v397 : BitVec 32 := Scalar.muli v17 c1_i32_287
  let v398 : BitVec 32 := Scalar.addi v396 v397
  v398.toNat
def k0_dev33 (d0 : Dev nD) : Nat :=
  let c0_i32_319 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_318 : BitVec 32 := 16#32
  let v434 : BitVec 32 := Scalar.muli v2 c16_i32_318
  let v435 : BitVec 32 := Scalar.addi c0_i32_319 v434
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_320 : BitVec 32 := 4#32
  let v436 : BitVec 32 := Scalar.muli v5 c4_i32_320
  let v437 : BitVec 32 := Scalar.addi v435 v436
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v14 : BitVec 1 := Scalar.cmpi .eq v8 c1_i32_5
  let c0_i32_6 : BitVec 32 := 0#32
  let c3_i32_7 : BitVec 32 := 3#32
  let v15 : BitVec 32 := Scalar.select v14 c0_i32_6 c3_i32_7
  let c1_i32_321 : BitVec 32 := 1#32
  let v438 : BitVec 32 := Scalar.muli v15 c1_i32_321
  let v439 : BitVec 32 := Scalar.addi v437 v438
  v439.toNat
def k0_dev34 (d0 : Dev nD) : Nat :=
  let c0_i32_329 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_328 : BitVec 32 := 16#32
  let v448 : BitVec 32 := Scalar.muli v2 c16_i32_328
  let v449 : BitVec 32 := Scalar.addi c0_i32_329 v448
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_11 : BitVec 32 := 1#32
  let v18 : BitVec 32 := Scalar.addi v5 c1_i32_11
  let c2_i32_18 : BitVec 32 := 2#32
  let c2_i32_12 : BitVec 32 := 2#32
  let c0_i32_13 : BitVec 32 := 0#32
  let v19 : BitVec 1 := Scalar.cmpi .eq c2_i32_12 c0_i32_13
  let c1_i32_14 : BitVec 32 := 1#32
  let v20 : BitVec 32 := Scalar.select v19 c1_i32_14 c2_i32_12
  let v21 : BitVec 32 := Scalar.remsi v5 v20
  let c0_i32_16 : BitVec 32 := 0#32
  let v23 : BitVec 1 := Scalar.cmpi .slt v21 c0_i32_16
  let c0_i32_17 : BitVec 32 := 0#32
  let v24 : BitVec 1 := Scalar.cmpi .slt v20 c0_i32_17
  let v25 : BitVec 1 := Scalar.xori v23 v24
  let c0_i32_15 : BitVec 32 := 0#32
  let v22 : BitVec 1 := Scalar.cmpi .ne v21 c0_i32_15
  let v26 : BitVec 1 := Scalar.andi v25 v22
  let v27 : BitVec 32 := Scalar.addi v21 v20
  let v28 : BitVec 32 := Scalar.select v26 v27 v21
  let v29 : BitVec 32 := Scalar.muli c2_i32_18 v28
  let v30 : BitVec 32 := Scalar.subi v18 v29
  let c4_i32_330 : BitVec 32 := 4#32
  let v450 : BitVec 32 := Scalar.muli v30 c4_i32_330
  let v451 : BitVec 32 := Scalar.addi v449 v450
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_331 : BitVec 32 := 1#32
  let v452 : BitVec 32 := Scalar.muli v8 c1_i32_331
  let v453 : BitVec 32 := Scalar.addi v451 v452
  v453.toNat
def k0_dev35 (d0 : Dev nD) : Nat :=
  let c0_i32_353 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_352 : BitVec 32 := 16#32
  let v485 : BitVec 32 := Scalar.muli v2 c16_i32_352
  let v486 : BitVec 32 := Scalar.addi c0_i32_353 v485
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_354 : BitVec 32 := 4#32
  let v487 : BitVec 32 := Scalar.muli v5 c4_i32_354
  let v488 : BitVec 32 := Scalar.addi v486 v487
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v16 : BitVec 1 := Scalar.cmpi .eq v8 c1_i32_8
  let c2_i32_9 : BitVec 32 := 2#32
  let c1_i32_10 : BitVec 32 := 1#32
  let v17 : BitVec 32 := Scalar.select v16 c2_i32_9 c1_i32_10
  let c1_i32_355 : BitVec 32 := 1#32
  let v489 : BitVec 32 := Scalar.muli v17 c1_i32_355
  let v490 : BitVec 32 := Scalar.addi v488 v489
  v490.toNat
def k0_dev36 (d0 : Dev nD) : Nat :=
  let c0_i32_387 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_386 : BitVec 32 := 16#32
  let v526 : BitVec 32 := Scalar.muli v2 c16_i32_386
  let v527 : BitVec 32 := Scalar.addi c0_i32_387 v526
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_388 : BitVec 32 := 4#32
  let v528 : BitVec 32 := Scalar.muli v5 c4_i32_388
  let v529 : BitVec 32 := Scalar.addi v527 v528
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v14 : BitVec 1 := Scalar.cmpi .eq v8 c1_i32_5
  let c0_i32_6 : BitVec 32 := 0#32
  let c3_i32_7 : BitVec 32 := 3#32
  let v15 : BitVec 32 := Scalar.select v14 c0_i32_6 c3_i32_7
  let c1_i32_389 : BitVec 32 := 1#32
  let v530 : BitVec 32 := Scalar.muli v15 c1_i32_389
  let v531 : BitVec 32 := Scalar.addi v529 v530
  v531.toNat
def k0_dev37 (d0 : Dev nD) : Nat :=
  let c0_i32_397 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_396 : BitVec 32 := 16#32
  let v540 : BitVec 32 := Scalar.muli v2 c16_i32_396
  let v541 : BitVec 32 := Scalar.addi c0_i32_397 v540
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_11 : BitVec 32 := 1#32
  let v18 : BitVec 32 := Scalar.addi v5 c1_i32_11
  let c2_i32_18 : BitVec 32 := 2#32
  let c2_i32_12 : BitVec 32 := 2#32
  let c0_i32_13 : BitVec 32 := 0#32
  let v19 : BitVec 1 := Scalar.cmpi .eq c2_i32_12 c0_i32_13
  let c1_i32_14 : BitVec 32 := 1#32
  let v20 : BitVec 32 := Scalar.select v19 c1_i32_14 c2_i32_12
  let v21 : BitVec 32 := Scalar.remsi v5 v20
  let c0_i32_16 : BitVec 32 := 0#32
  let v23 : BitVec 1 := Scalar.cmpi .slt v21 c0_i32_16
  let c0_i32_17 : BitVec 32 := 0#32
  let v24 : BitVec 1 := Scalar.cmpi .slt v20 c0_i32_17
  let v25 : BitVec 1 := Scalar.xori v23 v24
  let c0_i32_15 : BitVec 32 := 0#32
  let v22 : BitVec 1 := Scalar.cmpi .ne v21 c0_i32_15
  let v26 : BitVec 1 := Scalar.andi v25 v22
  let v27 : BitVec 32 := Scalar.addi v21 v20
  let v28 : BitVec 32 := Scalar.select v26 v27 v21
  let v29 : BitVec 32 := Scalar.muli c2_i32_18 v28
  let v30 : BitVec 32 := Scalar.subi v18 v29
  let c4_i32_398 : BitVec 32 := 4#32
  let v542 : BitVec 32 := Scalar.muli v30 c4_i32_398
  let v543 : BitVec 32 := Scalar.addi v541 v542
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_399 : BitVec 32 := 1#32
  let v544 : BitVec 32 := Scalar.muli v8 c1_i32_399
  let v545 : BitVec 32 := Scalar.addi v543 v544
  v545.toNat
def k0_dev38 (d0 : Dev nD) : Nat :=
  let c0_i32_421 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_420 : BitVec 32 := 16#32
  let v577 : BitVec 32 := Scalar.muli v2 c16_i32_420
  let v578 : BitVec 32 := Scalar.addi c0_i32_421 v577
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_422 : BitVec 32 := 4#32
  let v579 : BitVec 32 := Scalar.muli v5 c4_i32_422
  let v580 : BitVec 32 := Scalar.addi v578 v579
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v16 : BitVec 1 := Scalar.cmpi .eq v8 c1_i32_8
  let c2_i32_9 : BitVec 32 := 2#32
  let c1_i32_10 : BitVec 32 := 1#32
  let v17 : BitVec 32 := Scalar.select v16 c2_i32_9 c1_i32_10
  let c1_i32_423 : BitVec 32 := 1#32
  let v581 : BitVec 32 := Scalar.muli v17 c1_i32_423
  let v582 : BitVec 32 := Scalar.addi v580 v581
  v582.toNat
def k0_dev39 (d0 : Dev nD) : Nat :=
  let c0_i32_455 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_454 : BitVec 32 := 16#32
  let v618 : BitVec 32 := Scalar.muli v2 c16_i32_454
  let v619 : BitVec 32 := Scalar.addi c0_i32_455 v618
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_456 : BitVec 32 := 4#32
  let v620 : BitVec 32 := Scalar.muli v5 c4_i32_456
  let v621 : BitVec 32 := Scalar.addi v619 v620
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v14 : BitVec 1 := Scalar.cmpi .eq v8 c1_i32_5
  let c0_i32_6 : BitVec 32 := 0#32
  let c3_i32_7 : BitVec 32 := 3#32
  let v15 : BitVec 32 := Scalar.select v14 c0_i32_6 c3_i32_7
  let c1_i32_457 : BitVec 32 := 1#32
  let v622 : BitVec 32 := Scalar.muli v15 c1_i32_457
  let v623 : BitVec 32 := Scalar.addi v621 v622
  v623.toNat
def k0_dev40 (d0 : Dev nD) : Nat :=
  let c0_i32_465 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_464 : BitVec 32 := 16#32
  let v632 : BitVec 32 := Scalar.muli v2 c16_i32_464
  let v633 : BitVec 32 := Scalar.addi c0_i32_465 v632
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_11 : BitVec 32 := 1#32
  let v18 : BitVec 32 := Scalar.addi v5 c1_i32_11
  let c2_i32_18 : BitVec 32 := 2#32
  let c2_i32_12 : BitVec 32 := 2#32
  let c0_i32_13 : BitVec 32 := 0#32
  let v19 : BitVec 1 := Scalar.cmpi .eq c2_i32_12 c0_i32_13
  let c1_i32_14 : BitVec 32 := 1#32
  let v20 : BitVec 32 := Scalar.select v19 c1_i32_14 c2_i32_12
  let v21 : BitVec 32 := Scalar.remsi v5 v20
  let c0_i32_16 : BitVec 32 := 0#32
  let v23 : BitVec 1 := Scalar.cmpi .slt v21 c0_i32_16
  let c0_i32_17 : BitVec 32 := 0#32
  let v24 : BitVec 1 := Scalar.cmpi .slt v20 c0_i32_17
  let v25 : BitVec 1 := Scalar.xori v23 v24
  let c0_i32_15 : BitVec 32 := 0#32
  let v22 : BitVec 1 := Scalar.cmpi .ne v21 c0_i32_15
  let v26 : BitVec 1 := Scalar.andi v25 v22
  let v27 : BitVec 32 := Scalar.addi v21 v20
  let v28 : BitVec 32 := Scalar.select v26 v27 v21
  let v29 : BitVec 32 := Scalar.muli c2_i32_18 v28
  let v30 : BitVec 32 := Scalar.subi v18 v29
  let c4_i32_466 : BitVec 32 := 4#32
  let v634 : BitVec 32 := Scalar.muli v30 c4_i32_466
  let v635 : BitVec 32 := Scalar.addi v633 v634
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_467 : BitVec 32 := 1#32
  let v636 : BitVec 32 := Scalar.muli v8 c1_i32_467
  let v637 : BitVec 32 := Scalar.addi v635 v636
  v637.toNat
def k0_dev41 (d0 : Dev nD) : Nat :=
  let c0_i32_489 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_488 : BitVec 32 := 16#32
  let v669 : BitVec 32 := Scalar.muli v2 c16_i32_488
  let v670 : BitVec 32 := Scalar.addi c0_i32_489 v669
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_490 : BitVec 32 := 4#32
  let v671 : BitVec 32 := Scalar.muli v5 c4_i32_490
  let v672 : BitVec 32 := Scalar.addi v670 v671
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v16 : BitVec 1 := Scalar.cmpi .eq v8 c1_i32_8
  let c2_i32_9 : BitVec 32 := 2#32
  let c1_i32_10 : BitVec 32 := 1#32
  let v17 : BitVec 32 := Scalar.select v16 c2_i32_9 c1_i32_10
  let c1_i32_491 : BitVec 32 := 1#32
  let v673 : BitVec 32 := Scalar.muli v17 c1_i32_491
  let v674 : BitVec 32 := Scalar.addi v672 v673
  v674.toNat
def k0_dev42 (d0 : Dev nD) : Nat :=
  let c0_i32_523 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_522 : BitVec 32 := 16#32
  let v710 : BitVec 32 := Scalar.muli v2 c16_i32_522
  let v711 : BitVec 32 := Scalar.addi c0_i32_523 v710
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_524 : BitVec 32 := 4#32
  let v712 : BitVec 32 := Scalar.muli v5 c4_i32_524
  let v713 : BitVec 32 := Scalar.addi v711 v712
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v14 : BitVec 1 := Scalar.cmpi .eq v8 c1_i32_5
  let c0_i32_6 : BitVec 32 := 0#32
  let c3_i32_7 : BitVec 32 := 3#32
  let v15 : BitVec 32 := Scalar.select v14 c0_i32_6 c3_i32_7
  let c1_i32_525 : BitVec 32 := 1#32
  let v714 : BitVec 32 := Scalar.muli v15 c1_i32_525
  let v715 : BitVec 32 := Scalar.addi v713 v714
  v715.toNat
def k0_dev43 (d0 : Dev nD) : Nat :=
  let c0_i32_533 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_532 : BitVec 32 := 16#32
  let v724 : BitVec 32 := Scalar.muli v2 c16_i32_532
  let v725 : BitVec 32 := Scalar.addi c0_i32_533 v724
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_11 : BitVec 32 := 1#32
  let v18 : BitVec 32 := Scalar.addi v5 c1_i32_11
  let c2_i32_18 : BitVec 32 := 2#32
  let c2_i32_12 : BitVec 32 := 2#32
  let c0_i32_13 : BitVec 32 := 0#32
  let v19 : BitVec 1 := Scalar.cmpi .eq c2_i32_12 c0_i32_13
  let c1_i32_14 : BitVec 32 := 1#32
  let v20 : BitVec 32 := Scalar.select v19 c1_i32_14 c2_i32_12
  let v21 : BitVec 32 := Scalar.remsi v5 v20
  let c0_i32_16 : BitVec 32 := 0#32
  let v23 : BitVec 1 := Scalar.cmpi .slt v21 c0_i32_16
  let c0_i32_17 : BitVec 32 := 0#32
  let v24 : BitVec 1 := Scalar.cmpi .slt v20 c0_i32_17
  let v25 : BitVec 1 := Scalar.xori v23 v24
  let c0_i32_15 : BitVec 32 := 0#32
  let v22 : BitVec 1 := Scalar.cmpi .ne v21 c0_i32_15
  let v26 : BitVec 1 := Scalar.andi v25 v22
  let v27 : BitVec 32 := Scalar.addi v21 v20
  let v28 : BitVec 32 := Scalar.select v26 v27 v21
  let v29 : BitVec 32 := Scalar.muli c2_i32_18 v28
  let v30 : BitVec 32 := Scalar.subi v18 v29
  let c4_i32_534 : BitVec 32 := 4#32
  let v726 : BitVec 32 := Scalar.muli v30 c4_i32_534
  let v727 : BitVec 32 := Scalar.addi v725 v726
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_535 : BitVec 32 := 1#32
  let v728 : BitVec 32 := Scalar.muli v8 c1_i32_535
  let v729 : BitVec 32 := Scalar.addi v727 v728
  v729.toNat
def k0_dev44 (d0 : Dev nD) : Nat :=
  let c0_i32_566 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_565 : BitVec 32 := 16#32
  let v764 : BitVec 32 := Scalar.muli v2 c16_i32_565
  let v765 : BitVec 32 := Scalar.addi c0_i32_566 v764
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_567 : BitVec 32 := 4#32
  let v766 : BitVec 32 := Scalar.muli v5 c4_i32_567
  let v767 : BitVec 32 := Scalar.addi v765 v766
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v14 : BitVec 1 := Scalar.cmpi .eq v8 c1_i32_5
  let c0_i32_6 : BitVec 32 := 0#32
  let c3_i32_7 : BitVec 32 := 3#32
  let v15 : BitVec 32 := Scalar.select v14 c0_i32_6 c3_i32_7
  let c1_i32_568 : BitVec 32 := 1#32
  let v768 : BitVec 32 := Scalar.muli v15 c1_i32_568
  let v769 : BitVec 32 := Scalar.addi v767 v768
  v769.toNat
def k0_dev45 (d0 : Dev nD) : Nat :=
  let c0_i32_576 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_575 : BitVec 32 := 16#32
  let v778 : BitVec 32 := Scalar.muli v2 c16_i32_575
  let v779 : BitVec 32 := Scalar.addi c0_i32_576 v778
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_11 : BitVec 32 := 1#32
  let v18 : BitVec 32 := Scalar.addi v5 c1_i32_11
  let c2_i32_18 : BitVec 32 := 2#32
  let c2_i32_12 : BitVec 32 := 2#32
  let c0_i32_13 : BitVec 32 := 0#32
  let v19 : BitVec 1 := Scalar.cmpi .eq c2_i32_12 c0_i32_13
  let c1_i32_14 : BitVec 32 := 1#32
  let v20 : BitVec 32 := Scalar.select v19 c1_i32_14 c2_i32_12
  let v21 : BitVec 32 := Scalar.remsi v5 v20
  let c0_i32_16 : BitVec 32 := 0#32
  let v23 : BitVec 1 := Scalar.cmpi .slt v21 c0_i32_16
  let c0_i32_17 : BitVec 32 := 0#32
  let v24 : BitVec 1 := Scalar.cmpi .slt v20 c0_i32_17
  let v25 : BitVec 1 := Scalar.xori v23 v24
  let c0_i32_15 : BitVec 32 := 0#32
  let v22 : BitVec 1 := Scalar.cmpi .ne v21 c0_i32_15
  let v26 : BitVec 1 := Scalar.andi v25 v22
  let v27 : BitVec 32 := Scalar.addi v21 v20
  let v28 : BitVec 32 := Scalar.select v26 v27 v21
  let v29 : BitVec 32 := Scalar.muli c2_i32_18 v28
  let v30 : BitVec 32 := Scalar.subi v18 v29
  let c4_i32_577 : BitVec 32 := 4#32
  let v780 : BitVec 32 := Scalar.muli v30 c4_i32_577
  let v781 : BitVec 32 := Scalar.addi v779 v780
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_578 : BitVec 32 := 1#32
  let v782 : BitVec 32 := Scalar.muli v8 c1_i32_578
  let v783 : BitVec 32 := Scalar.addi v781 v782
  v783.toNat
def k0_off5 (d0 : Dev nD) (c0_i32_582 : BitVec 32) : Fin 2 → Nat :=
  let c1024_i32_25 : BitVec 32 := 1024#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_19 : BitVec 32 := 2#32
  let c0_i32_20 : BitVec 32 := 0#32
  let v31 : BitVec 1 := Scalar.cmpi .eq c2_i32_19 c0_i32_20
  let c1_i32_21 : BitVec 32 := 1#32
  let v32 : BitVec 32 := Scalar.select v31 c1_i32_21 c2_i32_19
  let v33 : BitVec 32 := Scalar.remsi v5 v32
  let c0_i32_23 : BitVec 32 := 0#32
  let v35 : BitVec 1 := Scalar.cmpi .slt v33 c0_i32_23
  let c0_i32_24 : BitVec 32 := 0#32
  let v36 : BitVec 1 := Scalar.cmpi .slt v32 c0_i32_24
  let v37 : BitVec 1 := Scalar.xori v35 v36
  let c0_i32_22 : BitVec 32 := 0#32
  let v34 : BitVec 1 := Scalar.cmpi .ne v33 c0_i32_22
  let v38 : BitVec 1 := Scalar.andi v37 v34
  let v39 : BitVec 32 := Scalar.addi v33 v32
  let v40 : BitVec 32 := Scalar.select v38 v39 v33
  let c1024_i32 : BitVec 32 := 1024#32
  let v41 : BitVec 32 := Scalar.muli v40 c1024_i32
  let v42 : BitVec 32 := Scalar.subi c1024_i32_25 v41
  let v791 : BitVec 32 := Scalar.addi v42 c0_i32_582
  let c0_i32_589 : BitVec 32 := 0#32
  ![v791.toNat, 0]
abbrev stage0_0 : Fin 1 → Memref sig .tc .vmem S2048x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S8192x512 : Shape := ⟨2, ![8192, 512]⟩
abbrev S4x2048x512 : Shape := ⟨3, ![4, 2048, 512]⟩
abbrev S_ : Shape := ⟨0, ![]⟩
abbrev S2048x512 : Shape := ⟨2, ![2048, 512]⟩

abbrev nBuf : Space → Nat
  | .hbm => 4
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S4x2048x512, .f32⟩
  | .hbm, ⟨2, _⟩ => ⟨S_, .f32⟩
  | .hbm, ⟨3, _⟩ => ⟨S2048x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Blocks.lean ====
/-
# The kernel body as a list of blocks, one per chunk of 128 rows

The printed body is straight-line: every chunk of the loop bodies is written out. Here each kind of step is a
program over a chunk number `j`, and the body is the list of those steps in program order. `body_eq` is that the
printed body is this list.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal.ZSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The staging buffer of `x`, the staging buffer of the result, the landing buffer of the middle exchange. -/
abbrev xM : Memref sig .tc .vmem S2048x512 .f32 := Memref.whole cc0_stg0_0
/-- The result staging buffer. -/
abbrev oM : Memref sig .tc .vmem S2048x512 .f32 := Memref.whole cc0_stg1_0
/-- The landing buffer, eight chunks. -/
abbrev rM : Memref sig .tc .vmem S8x128x512 .f32 := Memref.whole cc0_scratch0

/-- The barrier semaphore. -/
abbrev barS : Sem sig := (SemArray.scalar (sig.barrier 0 rfl) : Sems sig S_).sem

/-- A program of the kernel returning nothing. -/
abbrev Step (F : FTy → Type) [FloatOps F] : Type 1 := Prog (TpuEff nD τ sig (Elt F) Λ₀ .tc) PUnit

/-- The eight chunks of a half, in order. -/
def chunks : List (Fin 8) := [0, 1, 2, 3, 4, 5, 6, 7]

/-- The programs of a list one after the other. -/
def run : List (Step F) → Step F
  | [] => pure ⟨⟩
  | p :: ps => p >>= fun _ => run ps

/-- Semaphore `j` lies in an array of eight. -/
theorem inb_sem (j : Fin 8) : ∀ a, (![j.val] : Fin 1 → ℕ) a + S1.size a ≤ S8.size a := by revert j; decide

/-- Semaphore `j` of a semaphore array of eight. -/
def at8 (S : DmaSems sig S8) (j : Fin 8) : DmaSem sig :=
  ((S.slice (Rect.unit (s := S8) ![j.val] S1.size (inb_sem j))).squeeze S_ squeezes_S1_S_).sem

/-- The row offset of chunk `j` in its half. -/
abbrev rowOf (j : Fin 8) : BitVec 32 := BitVec.ofNat 32 (128 * j.val)

/-- Slab `j` lies in the landing buffer. -/
theorem inb_slab (j : Fin 8) : ∀ a, (![j.val, 0, 0] : Fin 3 → ℕ) a + S1x128x512.size a ≤ S8x128x512.size a := by
  revert j; decide

/-- Chunk `j` of the landing buffer. -/
abbrev slab (j : Fin 8) : Rect S8x128x512 := Rect.unit (s := S8x128x512) ![j.val, 0, 0] S1x128x512.size (inb_slab j)
/-- Slab `j` of the landing buffer, squeezed to two axes. -/
abbrev slabM (j : Fin 8) : Memref sig .tc .vmem S128x512 .f32 :=
  (rM.slice (slab j) (fun _ => rfl)).squeeze S128x512 squeezes_S1x128x512_S128x512

section End
variable (c : Dev nD) (h : k0_cond3 c = 1#1)

/-- Chunk `j` of the rows an end device sums, and of the other half, as the printed body computes them. -/
abbrev ownE (j : Fin 8) : Rect S2048x512 := Rect.unit (s := S2048x512) (k0_off1 c (rowOf j)) S128x512.size (k0_off1_inb c h j)
/-- The rows of chunk `j` of the other half, as an end device computes them. -/
abbrev parE (j : Fin 8) : Rect S2048x512 := Rect.unit (s := S2048x512) (k0_off2 c (rowOf j)) S128x512.size (k0_off2_inb c h j)

/-- An end device sends chunk `j` of its `x` to its middle neighbour's result buffer. -/
def sendXE (j : Fin 8) : Step F :=
  Prog.lift (.enqueueDma (xM.slice (ownE c h j) (fun _ => rfl))
    (.remote (Dev.tc (⟨k0_dev6 c, k0_dev6_lt c h⟩ : Dev nD)) (oM.slice (ownE c h j) (fun _ => rfl)) (.dma (at8 cc0_scratch1 j)))
    (.dma (at8 cc0_scratch2 j)) (View.wordExact_bits rfl) (View.wordExact_bits rfl) ⟨⟨rfl, Or.inl rfl⟩, trivial⟩)

/-- An end device waits for chunk `j` of the total and passes it on to its `y` partner. -/
def relayE (j : Fin 8) : Step F := do
  Prog.lift (.waitDma2 (at8 cc0_scratch6 j) (oM.slice (ownE c h j) (fun _ => rfl)) (oM.slice (ownE c h j) (fun _ => rfl))
    (View.wordExact_bits rfl) (View.wordExact_bits rfl))
  Prog.lift (.enqueueDma (oM.slice (ownE c h j) (fun _ => rfl))
    (.remote (Dev.tc (⟨k0_dev14 c, k0_dev14_lt c h⟩ : Dev nD)) (oM.slice (ownE c h j) (fun _ => rfl)) (.dma (at8 cc0_scratch7 j)))
    (.dma (at8 cc0_scratch8 j)) (View.wordExact_bits rfl) (View.wordExact_bits rfl) ⟨⟨rfl, Or.inl rfl⟩, trivial⟩)

/-- An end device waits for chunk `j` of the other half. -/
def takeE (j : Fin 8) : Step F :=
  Prog.lift (.waitDma2 (at8 cc0_scratch8 j) (oM.slice (parE c h j) (fun _ => rfl)) (oM.slice (parE c h j) (fun _ => rfl))
    (View.wordExact_bits rfl) (View.wordExact_bits rfl))

/-- An end device waits until chunk `j` of its `x` has been read, -/
def doneXE (j : Fin 8) : Step F :=
  Prog.lift (.waitDma2 (at8 cc0_scratch1 j) (oM.slice (ownE c h j) (fun _ => rfl)) (xM.slice (ownE c h j) (fun _ => rfl))
    (View.wordExact_bits rfl) (View.wordExact_bits rfl))

/-- and until chunk `j` of its result has been read. -/
def doneYE (j : Fin 8) : Step F :=
  Prog.lift (.waitDma2 (at8 cc0_scratch7 j) (oM.slice (ownE c h j) (fun _ => rfl)) (oM.slice (ownE c h j) (fun _ => rfl))
    (View.wordExact_bits rfl) (View.wordExact_bits rfl))

/-- An end device's five steps on a chunk, numbered. -/
def stepE (s : Fin 5 × Fin 8) : Step F :=
  match s.1 with
  | 0 => sendXE c h s.2 | 1 => relayE c h s.2 | 2 => takeE c h s.2 | 3 => doneXE c h s.2 | 4 => doneYE c h s.2

/-- The order in which an end device takes them: each step over all the chunks before the next. -/
def endOrder : List (Fin 5 × Fin 8) :=
  chunks.map (0, ·) ++ chunks.map (1, ·) ++ chunks.map (2, ·) ++ chunks.map (3, ·) ++ chunks.map (4, ·)

end End

section Mid
variable (c : Dev nD) (h : k0_cond4 c = 1#1)

/-- Chunk `j` of the rows a middle device sums (as its transfers and as its loads compute them), and of the other half. -/
abbrev ownM (j : Fin 8) : Rect S2048x512 := Rect.unit (s := S2048x512) (k0_off3 c (rowOf j)) S128x512.size (k0_off3_inb c h j)
/-- The rows of chunk `j` of its own half, as a middle device loads them. -/
abbrev ownL (j : Fin 8) : Rect S2048x512 := Rect.unit (s := S2048x512) (k0_off4 c (rowOf j)) S128x512.size (k0_off4_inb c h j)
/-- The rows of chunk `j` of the other half, as a middle device computes them. -/
abbrev parM (j : Fin 8) : Rect S2048x512 := Rect.unit (s := S2048x512) (k0_off5 c (rowOf j)) S128x512.size (k0_off5_inb c h j)

/-- A middle device waits for its end neighbour's chunk `j`, adds its own and sends the pair sum to the other middle device. -/
def pairM (j : Fin 8) : Step F := do
  Prog.lift (.waitDma2 (at8 cc0_scratch2 j) (xM.slice (ownM c h j) (fun _ => rfl)) (oM.slice (ownM c h j) (fun _ => rfl))
    (View.wordExact_bits rfl) (View.wordExact_bits rfl))
  let v : Vec F S128x512 .f32 ← Prog.lift (.load oM (ownL c h j).toLoadRect (View.loadsAt_vmem h_S128x512))
  let w : Vec F S128x512 .f32 ← Prog.lift (.load xM (ownL c h j).toLoadRect (View.loadsAt_vmem h_S128x512))
  let _ : Vec F S128x512 .f32 ← Prog.lift (.load oM (ownL c h j).toLoadRect (View.loadsAt_vmem h_S128x512))
  Prog.lift (.store oM (ownL c h j) (k0_pay1 v w) Finset.univ (View.stores_vmem_bits_univ h_S128x512 rfl) (.inl rfl))
  Prog.lift (.enqueueDma (oM.slice (ownM c h j) (fun _ => rfl))
    (.remote (Dev.tc (⟨k0_dev22 c, k0_dev22_lt c h⟩ : Dev nD)) (slabM j) (.dma (at8 cc0_scratch3 j)))
    (.dma (at8 cc0_scratch4 j)) (View.wordExact_bits rfl) ((View.wordExact_bits rfl).reshape _ _) ⟨⟨rfl, Or.inl rfl⟩, trivial⟩)

/-- A middle device ends the exchange of chunk `j`: it waits until its pair sum has been read and the other's has landed,
    adds the other's and sends the total to its end neighbour and to its `y` partner. -/
def totalM (j : Fin 8) : Step F := do
  Prog.lift (.waitDma2 (at8 cc0_scratch3 j) (slabM j) (oM.slice (ownM c h j) (fun _ => rfl))
    ((View.wordExact_bits rfl).reshape _ _) (View.wordExact_bits rfl))
  Prog.lift (.waitDma2 (at8 cc0_scratch4 j) (oM.slice (ownM c h j) (fun _ => rfl)) (slabM j)
    (View.wordExact_bits rfl) ((View.wordExact_bits rfl).reshape _ _))
  let v : Vec F S128x512 .f32 ← Prog.lift (.load oM (ownL c h j).toLoadRect (View.loadsAt_vmem h_S128x512))
  let w : Vec F S1x128x512 .f32 ← Prog.lift (.load rM (slab j).toLoadRect (View.loadsAt_vmem h_S1x128x512))
  let _ : Vec F S128x512 .f32 ← Prog.lift (.load oM (ownL c h j).toLoadRect (View.loadsAt_vmem h_S128x512))
  Prog.lift (.store oM (ownL c h j) (k0_pay6 v w) Finset.univ (View.stores_vmem_bits_univ h_S128x512 rfl) (.inl rfl))
  Prog.lift (.enqueueDma (oM.slice (ownM c h j) (fun _ => rfl))
    (.remote (Dev.tc (⟨k0_dev24 c, k0_dev24_lt c h⟩ : Dev nD)) (oM.slice (ownM c h j) (fun _ => rfl)) (.dma (at8 cc0_scratch5 j)))
    (.dma (at8 cc0_scratch6 j)) (View.wordExact_bits rfl) (View.wordExact_bits rfl) ⟨⟨rfl, Or.inl rfl⟩, trivial⟩)
  Prog.lift (.enqueueDma (oM.slice (ownM c h j) (fun _ => rfl))
    (.remote (Dev.tc (⟨k0_dev25 c, k0_dev25_lt c h⟩ : Dev nD)) (oM.slice (ownM c h j) (fun _ => rfl)) (.dma (at8 cc0_scratch7 j)))
    (.dma (at8 cc0_scratch8 j)) (View.wordExact_bits rfl) (View.wordExact_bits rfl) ⟨⟨rfl, Or.inl rfl⟩, trivial⟩)

/-- A middle device waits for chunk `j` of the other half. -/
def takeM (j : Fin 8) : Step F :=
  Prog.lift (.waitDma2 (at8 cc0_scratch8 j) (oM.slice (parM c h j) (fun _ => rfl)) (oM.slice (parM c h j) (fun _ => rfl))
    (View.wordExact_bits rfl) (View.wordExact_bits rfl))

/-- A middle device waits until both its sends of chunk `j` of the total have been read. -/
def doneM (j : Fin 8) : Step F := do
  Prog.lift (.waitDma2 (at8 cc0_scratch5 j) (oM.slice (ownM c h j) (fun _ => rfl)) (oM.slice (ownM c h j) (fun _ => rfl))
    (View.wordExact_bits rfl) (View.wordExact_bits rfl))
  Prog.lift (.waitDma2 (at8 cc0_scratch7 j) (oM.slice (ownM c h j) (fun _ => rfl)) (oM.slice (ownM c h j) (fun _ => rfl))
    (View.wordExact_bits rfl) (View.wordExact_bits rfl))

/-- A middle device's four steps on a chunk, numbered. -/
def stepM (s : Fin 4 × Fin 8) : Step F :=
  match s.1 with
  | 0 => pairM c h s.2 | 1 => totalM c h s.2 | 2 => takeM c h s.2 | 3 => doneM c h s.2

/-- The order in which a middle device takes them: the pair sum of a chunk goes out before the chunk before it is totalled. -/
def midOrder : List (Fin 4 × Fin 8) :=
  [(0, 0), (0, 1), (1, 0), (0, 2), (1, 1), (0, 3), (1, 2), (0, 4), (1, 3), (0, 5), (1, 4), (0, 6), (1, 5), (0, 7), (1, 6), (1, 7)]
    ++ chunks.map (2, ·) ++ chunks.map (3, ·)

end Mid

/-- An end device's handshake: a unit to each of the two devices that write to it, and a wait for theirs. -/
def barE (c : Dev nD) (h : k0_cond1 c = 1#1) : Step F := do
  semSignalWord (⟨k0_dev1 c, k0_dev1_lt c h⟩ : Dev nD) barS 1#32
  semSignalWord (⟨k0_dev2 c, k0_dev2_lt c h⟩ : Dev nD) barS 1#32
  semWaitWord barS 2#32

/-- A middle device's handshake, with three devices. -/
def barM (c : Dev nD) (h : k0_cond2 c = 1#1) : Step F := do
  semSignalWord (⟨k0_dev3 c, k0_dev3_lt c h⟩ : Dev nD) barS 1#32
  semSignalWord (⟨k0_dev4 c, k0_dev4_lt c h⟩ : Dev nD) barS 1#32
  semSignalWord (⟨k0_dev5 c, k0_dev5_lt c h⟩ : Dev nD) barS 1#32
  semWaitWord barS 3#32

/-- The body on device `c`. -/
def bodyAt (c : Dev nD) : Step F := do
  if h : k0_cond1 c = 1#1 then barE c h else pure ⟨⟩
  if h : k0_cond2 c = 1#1 then barM c h else pure ⟨⟩
  if h : k0_cond3 c = 1#1 then run (endOrder.map (stepE c h)) else pure ⟨⟩
  if h : k0_cond4 c = 1#1 then run (midOrder.map (stepM c h)) else pure ⟨⟩

set_option maxRecDepth 65536 in
/-- The printed body is: read the device id, then the blocks. -/
theorem body_eq :
    cc0_body (F := F) xM (Memref.isWhole_whole _) oM (Memref.isWhole_whole _) rM (Memref.isWhole_whole _)
        cc0_scratch1 cc0_scratch2 cc0_scratch3 cc0_scratch4 cc0_scratch5 cc0_scratch6 cc0_scratch7 cc0_scratch8
      = (Prog.lift (.deviceId) >>= fun c => bodyAt c) := rfl

end Cert.KernelIdeal.ZSum

end
-- ==== Proof.Mesh.lean ====
/-
# The devices, the chunks of rows, and what the printed indices are

Device `16·x + 4·y + z`. A device sums the half of the rows its `y` parity names; `zp`, `mp` and `yp` are the
devices it talks to. The printed offsets, device numbers and semaphores of a chunk `j` are stated once, for every
device and chunk.
-/
module

public import proofs.«01_k».proof.Proof.Blocks

@[expose] public section

noncomputable section

namespace Cert.KernelIdeal.ZSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## Devices -/

/-- Whether a device is one of the two middle devices of its line along `z`. -/
def isMid (c : Dev nD) : Prop := c.val % 4 = 1 ∨ c.val % 4 = 2
instance (c : Dev nD) : Decidable (isMid c) := inferInstanceAs (Decidable (_ ∨ _))

set_option backward.proofsInPublic true in
/-- The other device of an end device and its middle neighbour. -/
def zp (c : Dev nD) : Dev nD := ⟨(if c.val % 2 = 0 then c.val + 1 else c.val - 1) % 32, Nat.mod_lt _ (by decide)⟩
set_option backward.proofsInPublic true in
/-- The device mirrored along `z`: of a middle device, the other middle device. -/
def mp (c : Dev nD) : Dev nD := ⟨(4 * (c.val / 4) + (3 - c.val % 4)) % 32, Nat.mod_lt _ (by decide)⟩
set_option backward.proofsInPublic true in
/-- The neighbour along `y`, which sums the other half. -/
def yp (c : Dev nD) : Dev nD := ⟨(if (c.val / 4) % 2 = 0 then c.val + 4 else c.val - 4) % 32, Nat.mod_lt _ (by decide)⟩

/-- The `z` neighbour's `z` neighbour is the device. -/
theorem zp_zp (c : Dev nD) : zp (zp c) = c := by revert c; decide
/-- The mirror image of the mirror image is the device. -/
theorem mp_mp (c : Dev nD) : mp (mp c) = c := by revert c; decide
/-- The `y` neighbour's `y` neighbour is the device. -/
theorem yp_yp (c : Dev nD) : yp (yp c) = c := by revert c; decide
/-- Along `z` an end's neighbour is a middle device, and the other way round. -/
theorem isMid_zp (c : Dev nD) : isMid (zp c) ↔ ¬ isMid c := by revert c; decide
/-- The mirror image of a middle device is a middle device, that of an end an end. -/
theorem isMid_mp (c : Dev nD) : isMid (mp c) ↔ isMid c := by revert c; decide
/-- The `y` neighbour of a middle device is a middle device, that of an end an end. -/
theorem isMid_yp (c : Dev nD) : isMid (yp c) ↔ isMid c := by revert c; decide

/-- The printed conditions are that the device is an end, or a middle one. -/
theorem cond1_iff (c : Dev nD) : k0_cond1 c = 1#1 ↔ ¬ isMid c := by revert c; decide +kernel
/-- The second condition of the kernel holds on the middle devices. -/
theorem cond2_iff (c : Dev nD) : k0_cond2 c = 1#1 ↔ isMid c := by revert c; decide +kernel
/-- The third condition holds on the end devices. -/
theorem cond3_iff (c : Dev nD) : k0_cond3 c = 1#1 ↔ ¬ isMid c := by revert c; decide +kernel
/-- The fourth condition holds on the middle devices. -/
theorem cond4_iff (c : Dev nD) : k0_cond4 c = 1#1 ↔ isMid c := by revert c; decide +kernel

/-- The printed device numbers, on the devices that compute them. -/
theorem dev1_at (c : Dev nD) (h : ¬ isMid c) : k0_dev1 c = (zp c).val := by revert c; decide +kernel
/-- An end device signals its `y` neighbour. -/
theorem dev2_at (c : Dev nD) (h : ¬ isMid c) : k0_dev2 c = (yp c).val := by revert c; decide +kernel
/-- A middle device signals its `z` neighbour. -/
theorem dev3_at (c : Dev nD) (h : isMid c) : k0_dev3 c = (zp c).val := by revert c; decide +kernel
/-- A middle device signals the other middle device. -/
theorem dev4_at (c : Dev nD) (h : isMid c) : k0_dev4 c = (mp c).val := by revert c; decide +kernel
/-- A middle device signals its `y` neighbour. -/
theorem dev5_at (c : Dev nD) (h : isMid c) : k0_dev5 c = (yp c).val := by revert c; decide +kernel
/-- An end device sends its chunks to its `z` neighbour. -/
theorem dev6_at (c : Dev nD) (h : ¬ isMid c) : k0_dev6 c = (zp c).val := by revert c; decide +kernel
/-- An end device sends the totals to its `y` neighbour. -/
theorem dev14_at (c : Dev nD) (h : ¬ isMid c) : k0_dev14 c = (yp c).val := by revert c; decide +kernel
/-- A middle device sends its pair sums to the other middle device. -/
theorem dev22_at (c : Dev nD) (h : isMid c) : k0_dev22 c = (mp c).val := by revert c; decide +kernel
/-- A middle device sends the totals to its `z` neighbour. -/
theorem dev24_at (c : Dev nD) (h : isMid c) : k0_dev24 c = (zp c).val := by revert c; decide +kernel
/-- A middle device sends the totals to its `y` neighbour. -/
theorem dev25_at (c : Dev nD) (h : isMid c) : k0_dev25 c = (yp c).val := by revert c; decide +kernel

/-! ## Chunks of rows -/

/-- Band `k` lies in the buffer. -/
theorem inb_band (k : Fin 16) : ∀ a, (![128 * k.val, 0] : Fin 2 → ℕ) a + S128x512.size a ≤ S2048x512.size a := by
  revert k; decide

/-- Rows `128·k ‥ 128·k + 127`. -/
abbrev band (k : Fin 16) : Rect S2048x512 := Rect.unit (s := S2048x512) ![128 * k.val, 0] S128x512.size (inb_band k)

/-- The half of the rows a device sums: the parity of its `y`. -/
def half (c : Dev nD) : Fin 2 := ⟨(c.val / 4) % 2, Nat.mod_lt _ (by decide)⟩

set_option backward.proofsInPublic true in
/-- Chunk `j` of half `y`. -/
def chunk (y : Fin 2) (j : Fin 8) : Fin 16 := ⟨8 * y.val + j.val, by omega⟩

/-- Chunk `j` of the half the device sums, and of the other half. -/
abbrev own (c : Dev nD) (j : Fin 8) : Fin 16 := chunk (half c) j
/-- Chunk `j` of the half that the device does not sum. -/
abbrev par (c : Dev nD) (j : Fin 8) : Fin 16 := chunk (half c).rev j

/-- Neighbours along `z` sum the same half. -/
theorem half_zp (c : Dev nD) : half (zp c) = half c := by revert c; decide
/-- The two middle devices sum the same half. -/
theorem half_mp (c : Dev nD) : half (mp c) = half c := by revert c; decide
/-- Neighbours along `y` sum different halves. -/
theorem half_yp (c : Dev nD) : half (yp c) = (half c).rev := by revert c; decide
/-- The `y` neighbour's own chunk is the device's chunk of the other half. -/
theorem own_yp (c : Dev nD) (j : Fin 8) : own (yp c) j = par c j := by rw [own, half_yp]
/-- The `y` neighbour's chunk of the other half is the device's own. -/
theorem par_yp (c : Dev nD) (j : Fin 8) : par (yp c) j = own c j := by rw [par, half_yp, Fin.rev_rev]

/-- The printed row offsets, at every chunk. -/
theorem off1_at (c : Dev nD) (j : Fin 8) : k0_off1 c (rowOf j) = ![128 * (own c j).val, 0] := by
  revert c j; decide +kernel
/-- An end device's offsets in the other half. -/
theorem off2_at (c : Dev nD) (j : Fin 8) : k0_off2 c (rowOf j) = ![128 * (par c j).val, 0] := by
  revert c j; decide +kernel
/-- A middle device's offsets in its own half. -/
theorem off3_at (c : Dev nD) (j : Fin 8) : k0_off3 c (rowOf j) = ![128 * (own c j).val, 0] := by
  revert c j; decide +kernel
/-- A middle device's load offsets in its own half. -/
theorem off4_at (c : Dev nD) (j : Fin 8) : k0_off4 c (rowOf j) = ![128 * (own c j).val, 0] := by
  revert c j; decide +kernel
/-- A middle device's offsets in the other half. -/
theorem off5_at (c : Dev nD) (j : Fin 8) : k0_off5 c (rowOf j) = ![128 * (par c j).val, 0] := by
  revert c j; decide +kernel

/-! ## Semaphores -/

set_option backward.proofsInPublic true in
/-- Semaphore `j` of family `f`: the families are the eight semaphore arrays of the kernel, in order. -/
def dsem (f j : Fin 8) : DmaSem sig := (⟨2 + 8 * f.val + j.val, by omega⟩ : Fin 66)

theorem at8_1 (j : Fin 8) : at8 cc0_scratch1 j = dsem 0 j := by revert j; decide
theorem at8_2 (j : Fin 8) : at8 cc0_scratch2 j = dsem 1 j := by revert j; decide
theorem at8_3 (j : Fin 8) : at8 cc0_scratch3 j = dsem 2 j := by revert j; decide
theorem at8_4 (j : Fin 8) : at8 cc0_scratch4 j = dsem 3 j := by revert j; decide
theorem at8_5 (j : Fin 8) : at8 cc0_scratch5 j = dsem 4 j := by revert j; decide
theorem at8_6 (j : Fin 8) : at8 cc0_scratch6 j = dsem 5 j := by revert j; decide
theorem at8_7 (j : Fin 8) : at8 cc0_scratch7 j = dsem 6 j := by revert j; decide
theorem at8_8 (j : Fin 8) : at8 cc0_scratch8 j = dsem 7 j := by revert j; decide

/-! ## The views of a chunk -/

/-- Chunk `k` of the two staging buffers. -/
abbrev xB (k : Fin 16) : Memref sig .tc .vmem S128x512 .f32 := xM.slice (band k) (fun _ => rfl)
abbrev oB (k : Fin 16) : Memref sig .tc .vmem S128x512 .f32 := oM.slice (band k) (fun _ => rfl)

/-- What a transfer of one chunk credits. -/
def N : ℕ := (oB 0).view.dmaCredit
/-- A transfer credits something. -/
theorem N_pos : 0 < N := View.dmaCredit_pos _ (by decide)
/-- A transfer of a chunk of `x` credits `N`. -/
theorem credit_x (k : Fin 16) : (xB k).view.dmaCredit = N := rfl
/-- A transfer of a chunk of the result credits `N`. -/
theorem credit_o (k : Fin 16) : (oB k).view.dmaCredit = N := rfl
/-- A transfer of a slab credits `N`. -/
theorem credit_r (j : Fin 8) : (slabM j).view.dmaCredit = N := rfl

/-- The cells of a chunk of the `x` staging buffer, of the result's, and of the landing buffer. -/
theorem set_x (k : Fin 16) : (xB k).view.set = (band k).set := View.set_slice_whole _ _
/-- The cells of a chunk of the result are those of its band. -/
theorem set_o (k : Fin 16) : (oB k).view.set = (band k).set := View.set_slice_whole _ _
/-- The cells of a squeezed slab are those of the slab. -/
theorem set_r (j : Fin 8) : (slabM j).view.set = (slab j).set :=
  (View.set_reshape _ _).trans (View.set_slice_whole _ _)

/-- An index is in band `k` when its row is. -/
theorem mem_band {k : Fin 16} {i : S2048x512.Idx} : i ∈ (band k).set ↔ (i 0).val / 128 = k.val := by
  rw [Rect.mem_set_unit]
  have h0 : (i 0).val < 2048 := (i 0).isLt
  have h1 : (i 1).val < 512 := (i 1).isLt
  constructor
  · intro h
    have := h 0
    simp [S128x512] at this
    omega
  · intro h a
    fin_cases a
    · simp [S128x512]; omega
    · simp [S128x512]; omega

/-- An index is in slab `j` when its first coordinate is `j`. -/
theorem mem_slab {j : Fin 8} {i : S8x128x512.Idx} : i ∈ (slab j).set ↔ i 0 = j := by
  rw [Rect.mem_set_unit]
  have h1 : (i 1).val < 128 := (i 1).isLt
  have h2 : (i 2).val < 512 := (i 2).isLt
  constructor
  · intro h
    have := h 0
    simp [S1x128x512] at this
    exact Fin.ext (by omega)
  · intro h a
    have h' : (i 0).val = j.val := congrArg Fin.val h
    fin_cases a
    · simp [S1x128x512]; omega
    · simp [S1x128x512]; omega
    · simp [S1x128x512]; omega

end Cert.KernelIdeal.ZSum

end
-- ==== Proof.Sched.lean ====
/-
# The schedule of the exchange

Each device has one barrier cell and sixty-four transfer cells (eight families of eight chunks). A cell is used for
one round. What its round hands its owner, how many units it expects and the levels of the waits are stated here for
every device, family and chunk.

Families, in the order of the kernel's semaphore arrays:
0 / 1 the send and receive cells of an end's `x` going to its middle neighbour, 2 / 3 of the pair sum going to the
other middle device, 4 / 5 of the total going back to the end, 6 / 7 of the total going to the `y` neighbour.
-/
module

public import proofs.«01_k».proof.Proof.Mesh

@[expose] public section

noncomputable section

namespace Cert.KernelIdeal.ZSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost state of the exchange's rounds. -/
abbrev UB : Type := URounds (GSem nD τ sig) (Fin 3)
/-- All the ghost state: the pipeline's and the exchange's. -/
abbrev UU : Type := UR sig nD τ × UB

local notation "𝕄" => MT nD τ sig Unit (Elt F) ℕ UU ℕ

/-- The pipeline's part of the ghost state. -/
abbrev EP : Emb (UR sig nD τ) (MT nD τ sig Unit (Elt F) ℕ UU ℕ) := embL
/-- The exchange's part of the ghost state. -/
abbrev ER : Emb UB (MT nD τ sig Unit (Elt F) ℕ UU ℕ) := embR

variable (m : (ℓ : Loc nD τ sig) → Buf (Elt F) ℓ) (ρ : Dev nD → PrngReg)

/-- The memory at launch: any contents, every semaphore counter zero, any generator registers. -/
def s₀ : MemSt nD τ sig (Elt F) := ⟨m, fun _ => 0, ρ⟩

/-! ## Cells -/

/-- A device's cells: its barrier cell, or family `f` at chunk `j`. -/
abbrev Cell : Type := Option (Fin 8 × Fin 8)

/-- The semaphore of a cell. -/
abbrev csem : Cell → SemLoc sig
  | none => .reg barS
  | some (f, j) => .dma (dsem f j)

/-- A cell of a device, as a semaphore of the whole machine. -/
abbrev kcell (ck : Dev nD × Cell) : GSem nD τ sig := ((ck.1 : Thread nD τ), csem ck.2)
/-- The barrier cell of device `c`. -/
abbrev barCell (c : Dev nD) : GSem nD τ sig := kcell (c, none)
/-- The transfer cell of family `f` and chunk `j`. -/
abbrev xCell (c : Dev nD) (f j : Fin 8) : GSem nD τ sig := kcell (c, some (f, j))

set_option backward.proofsInPublic true in
/-- Which of a device's cells a semaphore is (the staging copies' two semaphores are none of them). -/
def kindOf : SemLoc sig → Option Cell
  | .reg s => if s = barS then some none else none
  | .dma q => if 2 ≤ (q : Fin 66).val then
      some (some (⟨((q : Fin 66).val - 2) / 8, by have h : (q : Fin 66).val < 66 := (q : Fin 66).isLt; omega⟩, ⟨((q : Fin 66).val - 2) % 8, Nat.mod_lt _ (by decide)⟩))
    else none

/-- The cell of a cell's semaphore is that cell. -/
theorem kindOf_csem (k : Cell) : kindOf (csem k) = some k := by
  rcases k with _ | ⟨f, j⟩
  · rfl
  · show (if 2 ≤ 2 + 8 * f.val + j.val then _ else _) = _
    rw [if_pos (by omega)]
    congr 3
    · exact Fin.ext (show (2 + 8 * f.val + j.val - 2) / 8 = f.val by omega)
    · exact Fin.ext (show (2 + 8 * f.val + j.val - 2) % 8 = j.val by omega)

/-- Different cells of a device have different semaphores. -/
theorem csem_injective : Function.Injective csem := fun k k' h => by
  have := congrArg kindOf h
  rw [kindOf_csem, kindOf_csem] at this
  exact Option.some.inj this

/-- Different cells of the machine have different semaphores. -/
theorem kcell_injective : Function.Injective (kcell : Dev nD × Cell → GSem nD τ sig) := by
  rintro ⟨c, k⟩ ⟨c', k'⟩ h
  have h1 : c = c' := congrArg (fun g : GSem nD τ sig => g.1.1) h
  have h2 : k = k' := csem_injective (congrArg Prod.snd h)
  rw [h1, h2]

/-- Whether family `f` is used on a device: the ends send `x` and receive the total, the middle devices the opposite and
    the exchange between them, and every device exchanges with its `y` neighbour. -/
def act (f : Fin 8) (c : Dev nD) : Bool :=
  match f with
  | 0 | 5 => !decide (isMid c)
  | 1 | 2 | 3 | 4 => decide (isMid c)
  | 6 | 7 => true

/-- The device that pays family `f`'s cells of device `c` (and whose cells `c` pays). -/
def peer (f : Fin 8) (c : Dev nD) : Dev nD :=
  match f with
  | 1 | 5 => zp c
  | 3 => mp c
  | 7 => yp c
  | 0 | 2 | 4 | 6 => c

/-- The peer's peer is the device. -/
theorem peer_peer (f : Fin 8) (c : Dev nD) : peer f (peer f c) = c := by revert f c; decide

/-! ## Contents -/

/-- A whole buffer of 2048 × 512 numbers. -/
abbrev Big (F : FTy → Type) : Type := FVec F S2048x512 .f32

/-- Device `c`'s block of `x`, as staged. -/
def X (c : Dev nD) : Big F :=
  (win0_0.blk (0 : Fin 1)).view.read (Elt F) ((s₀ m ρ).mem ((c : Thread nD τ).loc main_arg0))

/-- The pair sum of a middle device: its end neighbour's block plus its own. -/
def A (c : Dev nD) : Big F := addf (X m ρ (zp c)) (X m ρ c)

/-- The total as a middle device forms it: its pair sum plus the other's. -/
def B (c : Dev nD) : Big F := addf (A m ρ c) (A m ρ (mp c))

/-- The total as device `c` comes to hold it in the half it sums. -/
def T (c : Dev nD) : Big F := if isMid c then B m ρ c else B m ρ (zp c)

/-- Neighbours along `z` come to hold the same total. -/
theorem T_zp (c : Dev nD) : T m ρ (zp c) = T m ρ c := by
  unfold T
  by_cases h : isMid c
  · rw [if_neg (by rw [isMid_zp]; exact not_not.mpr h), if_pos h, zp_zp]
  · rw [if_pos ((isMid_zp c).mpr h), if_neg h]

/-- The result on device `c`: in each half of the rows, the total of the device that summed it. -/
def outAt (c : Dev nD) : Big F := fun i => if (i 0).val / 1024 = (half c).val then T m ρ c i else T m ρ (yp c) i

/-! ## What is held of a chunk -/

/-- Chunk `k` of device `d`'s result staging buffer at share `q`, holding `f`'s numbers there; of its `x` staging buffer;
    and chunk `j` of its landing buffer. -/
abbrev oPts (d : Dev nD) (k : Fin 16) (q : PosShare TreeShare) (f : Buf (Elt F) ((oB k).view.loc (d : Thread nD τ))) : sProp 𝕄 :=
  (oB k).view.loc (d : Thread nD τ) ↦[(oB k).view.set]{q} f
/-- Chunk `k` of its `x` staging buffer. -/
abbrev xPts (d : Dev nD) (k : Fin 16) (f : Buf (Elt F) ((xB k).view.loc (d : Thread nD τ))) : sProp 𝕄 :=
  (xB k).view.loc (d : Thread nD τ) ↦[(xB k).view.set]{fullShare} f
/-- Slab `j` of its landing buffer. -/
abbrev rPts (d : Dev nD) (j : Fin 8) (f : Buf (Elt F) ((slabM j).view.loc (d : Thread nD τ))) : sProp 𝕄 :=
  (slabM j).view.loc (d : Thread nD τ) ↦[(slabM j).view.set]{fullShare} f

/-- Chunk `j` of `c`'s landing buffer holding the other middle device's pair sum. -/
def landed (c : Dev nD) (j : Fin 8) : sProp 𝕄 :=
  iprop(∃ f : Buf (Elt F) ((slabM j).view.loc (c : Thread nD τ)),
    ⌜(slabM j).view.read (Elt F) f = (oB (own c j)).view.read (Elt F) (A m ρ (mp c))⌝ ∗ rPts c j f)

/-- An invariant can hold a landed chunk. -/
instance landed_storable (c j) : BI.Storable (upEmb : UEmb _ 𝕄) (landed (F := F) m ρ c j) := by unfold landed; infer_instance

/-! ## The schedule -/

/-- What the signals to `c`'s barrier cell hand over: the chunks of its `z` neighbour's result, the other middle device's
    landing buffer, the chunks of its `y` neighbour's result — where `c`'s transfers land. -/
def barPay (c : Dev nD) : Fin 3 → sProp 𝕄
  | 0 => bigSep Finset.univ fun j : Fin 8 => iprop(∃ f, oPts (F := F) (zp c) (own c j) fullShare f)
  | 1 => bigSep Finset.univ fun j : Fin 8 => iprop(∃ f, rPts (F := F) (mp c) j f)
  | 2 => bigSep Finset.univ fun j : Fin 8 => iprop(∃ f, oPts (F := F) (yp c) (own c j) fullShare f)

/-- What the completion of family `f` at chunk `j` hands over on device `c`. -/
def xferPay (c : Dev nD) (f j : Fin 8) : sProp 𝕄 :=
  match f with
  | 0 => xPts c (own c j) (X m ρ c)
  | 1 => oPts c (own c j) fullShare (X m ρ (zp c))
  | 2 => oPts c (own c j) fullShare (A m ρ c)
  | 3 => landed m ρ c j
  | 4 => oPts c (own c j) fullShare.left (T m ρ c)
  | 5 => oPts c (own c j) fullShare (T m ρ c)
  | 6 => oPts c (own c j) fullShare.right (T m ρ c)
  | 7 => oPts c (par c j) fullShare (T m ρ (yp c))

/-- An invariant can hold what a signal hands over. -/
instance barPay_storable (c) (d : Fin 3) : BI.Storable (upEmb : UEmb _ 𝕄) (barPay (F := F) c d) := by
  fin_cases d <;> (dsimp only [barPay]; infer_instance)
/-- An invariant can hold what a transfer hands over. -/
instance xferPay_storable (c f j) : BI.Storable (upEmb : UEmb _ 𝕄) (xferPay (F := F) m ρ c f j) := by
  fin_cases f <;> (dsimp only [xferPay]; infer_instance)

/-- The duties of a cell's one round: the barrier's are named by the payer (0 along `z` to the neighbour, 1 between the
    middle devices, 2 along `y`); a transfer cell has duty 0 where its family is used. -/
def dutiesOf (c : Dev nD) : Cell → Finset (Fin 3)
  | none => if isMid c then Finset.univ else {0, 2}
  | some (f, _) => if act f c then {0} else ∅

/-- The duties of a barrier cell. -/
theorem dutiesOf_bar (c : Dev nD) : dutiesOf c none = if isMid c then Finset.univ else {0, 2} := rfl
/-- A used transfer cell has its one duty. -/
theorem dutiesOf_used (c : Dev nD) (f j : Fin 8) (h : act f c = true) : dutiesOf c (some (f, j)) = {0} := if_pos h
/-- An unused one has none. -/
theorem dutiesOf_unused (c : Dev nD) (f j : Fin 8) (h : act f c = false) : dutiesOf c (some (f, j)) = ∅ :=
  if_neg (by rw [h]; decide)

/-- What a duty of a cell hands over. -/
def payOf (c : Dev nD) (k : Cell) (d : Fin 3) : sProp 𝕄 :=
  match k with
  | none => barPay c d
  | some (f, j) => xferPay m ρ c f j

/-- An invariant can hold what a duty hands over. -/
instance payOf_storable (c k d) : BI.Storable (upEmb : UEmb _ 𝕄) (payOf (F := F) m ρ c k d) := by
  rcases k with _ | ⟨f, j⟩ <;> (dsimp only [payOf]; infer_instance)

/-- The schedule: every cell has one round, with those duties; a signal is one unit and a transfer a chunk's. -/
def Rd : Rounds.Schedule (GSem nD τ sig) (Fin 3) 𝕄 where
  duties g r := if g.1.2 = .tc ∧ r = 0 then (match kindOf g.2 with | some k => dutiesOf g.1.1 k | none => ∅) else ∅
  unitless _ := False
  amount g _ _ := match g.2 with | .reg _ => 1 | .dma _ => N
  payload g _ d := match kindOf g.2 with | some k => payOf m ρ g.1.1 k d | none => iprop(emp)
  amount_pos g _ _ _ := by
    rcases g with ⟨_, _ | _⟩
    · exact Nat.one_pos
    · exact N_pos

/-- An invariant can hold the schedule's payloads. -/
instance Rd_payload_storable (g : GSem nD τ sig) (r : ℕ) (d : Fin 3) :
    BI.Storable (upEmb : UEmb _ 𝕄) ((Rd (F := F) m ρ).payload g r d) := by
  show BI.Storable upEmb (match kindOf g.2 with | some k => payOf m ρ g.1.1 k d | none => iprop(emp))
  cases kindOf g.2 <;> infer_instance

section SchedFacts
variable (c : Dev nD) (k : Cell)

/-- The duties of a cell in its round are those listed for it. -/
theorem duties_cell : (Rd (F := F) m ρ).duties (kcell (c, k)) 0 = dutiesOf c k := by
  dsimp only [Rd]; rw [if_pos ⟨rfl, rfl⟩, kindOf_csem]
/-- No cell has duties in a later round. -/
theorem duties_later (g : GSem nD τ sig) : ∀ r, 1 ≤ r → (Rd (F := F) m ρ).duties g r = ∅ :=
  fun r hr => by dsimp only [Rd]; rw [if_neg fun h => by omega]
/-- What the duties of a cell hand over is what is listed for it. -/
theorem payload_cell (d : Fin 3) : (Rd (F := F) m ρ).payload (kcell (c, k)) 0 d = payOf m ρ c k d := by
  dsimp only [Rd]; rw [kindOf_csem]
/-- A signal is one unit. -/
theorem amount_bar (d : Fin 3) : (Rd (F := F) m ρ).amount (barCell c) 0 d = 1 := rfl
/-- A transfer is a chunk's units. -/
theorem amount_x (f j : Fin 8) (d : Fin 3) : (Rd (F := F) m ρ).amount (xCell c f j) 0 d = N := rfl

/-- A barrier cell expects a unit from each of the two or three devices that signal it. -/
theorem expect_bar : (Rd (F := F) m ρ).expect (barCell c) 0 = if isMid c then 3 else 2 := by
  unfold Schedule.expect Schedule.amountOf
  rw [duties_cell, Finset.sum_congr rfl fun d _ => amount_bar m ρ c d, Finset.sum_const]
  rw [dutiesOf_bar]
  split <;> rfl
/-- A used transfer cell expects one chunk's credit. -/
theorem expect_x (f j : Fin 8) (h : act f c = true) : (Rd (F := F) m ρ).expect (xCell c f j) 0 = N := by
  unfold Schedule.expect Schedule.amountOf
  rw [duties_cell, dutiesOf_used c f j h, Finset.sum_singleton, amount_x]
/-- and its round hands over that family's payload. -/
theorem rest_x (f j : Fin 8) (h : act f c = true) :
    bigSep ((Rd (F := F) m ρ).duties (xCell c f j) 0 \ ∅) (fun d => (Rd (F := F) m ρ).payload (xCell c f j) 0 d) = xferPay m ρ c f j := by
  rw [Finset.sdiff_empty, duties_cell, dutiesOf_used c f j h, bigSep_singleton, payload_cell]; rfl
/-- A used transfer cell's duty is in its round. -/
theorem mem_x (f j : Fin 8) (h : act f c = true) : (0 : Fin 3) ∈ (Rd (F := F) m ρ).duties (xCell c f j) 0 := by
  rw [duties_cell, dutiesOf_used c f j h]; exact Finset.mem_singleton_self _
/-- An unused transfer cell has no duties at all. -/
theorem duties_unused (f j : Fin 8) (h : act f c = false) : ∀ r, 0 ≤ r → (Rd (F := F) m ρ).duties (xCell c f j) r = ∅ := by
  intro r _
  rcases Nat.eq_zero_or_pos r with rfl | hr
  · rw [duties_cell, dutiesOf_unused c f j h]
  · exact duties_later m ρ _ r hr

end SchedFacts

/-! ## Levels, and what a device may owe while it waits -/

/-- The levels are given to the TensorCores' semaphores. -/
def L (g : GSem nD τ sig) : Finset Unit := if g.1.2 = .tc then {()} else ∅

/-- The level of a cell: sends and staging below the barrier, then in the order in which the receives are served. -/
def lvl : Cell → ℕ
  | none => 1
  | some (f, j) =>
    match f with
    | 0 | 2 | 4 | 6 => 0
    | 1 => 2
    | 3 => 3 + j.val
    | 5 => 20
    | 7 => 30

/-- A semaphore's level is its cell's; the others are at level zero. -/
def lv (g : GSem nD τ sig) (_ : Unit) : ℕ := match kindOf g.2 with | some k => lvl k | none => 0

/-- No other thread has levels. -/
theorem L_of_ne (g : GSem nD τ sig) (h : g.1.2 ≠ .tc) : L g = ∅ := if_neg h
/-- A TensorCore's semaphores have them. -/
theorem L_tc (c : Dev nD) (sm : SemLoc sig) : L ((c : Thread nD τ), sm) = {()} := if_pos rfl
/-- The level of a cell. -/
theorem lv_cell (c : Dev nD) (k : Cell) : lv (kcell (c, k)) () = lvl k := by
  unfold lv; rw [kindOf_csem]

/-- Everything owed in `O` is owed at a level above `ℓ`. -/
def Above (ℓ : ℕ) (O : CellTallies nD τ sig Unit) : Prop := ∀ g u, 0 < O g u → u ∈ L g ∧ ℓ < lv g u

/-- Nothing owed is above any level. -/
theorem above_zero (ℓ : ℕ) : Above ℓ 0 := fun g u h => absurd h (Nat.lt_irrefl 0)
/-- Two debts above a level are so together. -/
theorem above_add {ℓ : ℕ} {O O' : CellTallies nD τ sig Unit} (h : Above ℓ O) (h' : Above ℓ O') : Above ℓ (O + O') := by
  intro g u hp
  rw [Pi.add_apply, Finsupp.add_apply] at hp
  rcases Nat.eq_zero_or_pos (O g u) with h0 | h0
  · exact h' g u (by omega)
  · exact h g u h0
/-- A debt to one cell is above every lower level. -/
theorem above_tally {ℓ : ℕ} (c : Dev nD) (k : Cell) (n : ℕ) (h : ℓ < lvl k) : Above ℓ (tallyAt (kcell (c, k)) () n) := by
  intro g u hp
  rw [tallyAt_apply] at hp
  by_cases hg : g = kcell (c, k) ∧ u = ()
  · rw [hg.1, hg.2, L_tc, lv_cell]; exact ⟨Finset.mem_singleton_self _, h⟩
  · rw [if_neg hg] at hp; exact absurd hp (Nat.lt_irrefl 0)
/-- A sum of debts above a level is above it. -/
theorem above_sum {I : Type} {ℓ : ℕ} (S : Finset I) (O : I → CellTallies nD τ sig Unit) (h : ∀ i ∈ S, Above ℓ (O i)) :
    Above ℓ (∑ i ∈ S, O i) := by
  classical
  induction S using Finset.induction_on with
  | empty => exact above_zero ℓ
  | insert a S ha ih =>
    rw [Finset.sum_insert ha]
    exact above_add (h a (Finset.mem_insert_self _ _)) (ih fun i hi => h i (Finset.mem_insert_of_mem hi))

/-- A device may wait on a cell below everything it owes. -/
theorem mayWait_above (c : Dev nD) (sm : SemLoc sig) {O : CellTallies nD τ sig Unit} (h : Above (lv ((c : Thread nD τ), sm) ()) O) :
    (levAts L lv : sProp 𝕄) ⊢ MayWait (c : Thread nD τ) sm () O :=
  MayOwe.of_cut (L := L) (lev := lv) (lv ((c : Thread nD τ), sm) ())
    (fun p hp => by rw [Finset.mem_singleton.mp hp, L_tc]; exact Finset.mem_singleton_self _)
    (fun g u hg => (h g u hg).1)
    (fun p hp => by rw [Finset.mem_singleton.mp hp])
    (fun g u hg => (h g u hg).2)

/-- A device may wait on a cell while what it owes is above that cell's level. -/
theorem mayWait_cell (c : Dev nD) (k : Cell) {O : CellTallies nD τ sig Unit} (h : Above (lvl k) O) :
    (levAts L lv : sProp 𝕄) ⊢ MayWait (c : Thread nD τ) (csem k) () O :=
  mayWait_above c (csem k) (by rw [show lv ((c : Thread nD τ), csem k) () = lvl k from lv_cell c k]; exact h)

end Cert.KernelIdeal.ZSum

end
-- ==== Proof.Rules.lean ====
/-
# One rule per operation of the body

The rules of the exchange at this kernel's cells: a transfer of a chunk, the wait for one, a signal, and the sums of a
chunk. Each is stated for every device, family and chunk; the printed memrefs, devices and semaphores enter by
equations.
-/
module

public import proofs.«01_k».proof.Proof.Sched
public import Idealize.ShloMosaic.Lib.Pipeline.Value

@[expose] public section

noncomputable section

namespace Cert.KernelIdeal.ZSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- No loop of the kernel needs a variant. -/
abbrev 𝒱₀ : Variants := Variants.none

/-- The weakest precondition of a program of device `c`'s body. -/
abbrev WP (c : Dev nD) (p : Step F) (Q : PUnit → sProp 𝕄) : sProp 𝕄 :=
  wp frame (wpE (defs₀ (F := F)) 𝒱₀ (c : Thread nD τ) none) Set.univ p Q

/-! ## What every step may read: the cells' invariants, that every cell is at round 0, and the levels -/

/-- The invariants of all the cells, that each has reached round 0, and the levels. -/
def env (K : Dev nD × Cell → ℕ) : sProp 𝕄 :=
  iprop((bigSep Finset.univ fun ck : Dev nD × Cell => cellInv ER (Rd m ρ) (K ck) (kcell ck))
    ∗ (bigSep Finset.univ fun ck : Dev nD × Cell => reached ER (kcell ck) 0) ∗ levAts L lv)

/-- They may be read any number of times. -/
instance env_persistent (K : Dev nD × Cell → ℕ) : BI.Persistent (env m ρ K) := by unfold env; infer_instance

/-- One invariant out of all of them. -/
theorem inv_at (K : Dev nD × Cell → ℕ) (ck : Dev nD × Cell) :
    (bigSep Finset.univ fun ck : Dev nD × Cell => (cellInv ER (Rd m ρ) (K ck) (kcell ck) : sProp 𝕄)) ⊢ cellInv ER (Rd m ρ) (K ck) (kcell ck) :=
  bigSep_elim (Finset.mem_univ ck)
/-- One cell's reached round out of all of them. -/
theorem reached_at (ck : Dev nD × Cell) :
    (bigSep Finset.univ fun ck : Dev nD × Cell => (reached ER (kcell ck) 0 : sProp 𝕄)) ⊢ reached ER (kcell ck) 0 :=
  bigSep_elim (Finset.mem_univ ck)

/-- A step may read any cell's invariant. -/
theorem env_inv (K : Dev nD × Cell → ℕ) (ck : Dev nD × Cell) : env m ρ K ⊢ cellInv ER (Rd m ρ) (K ck) (kcell ck) := by
  unfold env
  iintro ⟨H, -, -⟩
  iapply (inv_at m ρ K ck); iexact H
/-- A step may read that any cell has reached round 0. -/
theorem env_reached (K : Dev nD × Cell → ℕ) (ck : Dev nD × Cell) : env m ρ K ⊢ reached ER (kcell ck) 0 := by
  unfold env
  iintro ⟨-, H, -⟩
  iapply (reached_at (F := F) ck); iexact H
/-- A step may read the levels. -/
theorem env_lev (K : Dev nD × Cell → ℕ) : env m ρ K ⊢ (levAts L lv : sProp 𝕄) := by
  unfold env
  iintro ⟨-, -, H⟩; iexact H

set_option maxRecDepth 20000 in
/-- A device may wait on a cell below everything it owes. -/
theorem env_wait (K : Dev nD × Cell → ℕ) (c : Dev nD) (k : Cell) {O : CellTallies nD τ sig Unit} (hO : Above (lvl k) O) :
    env m ρ K ⊢ MayWait (c : Thread nD τ) (csem k) () O := (env_lev m ρ K).trans (mayWait_cell c k hO)

variable (K : Dev nD × Cell → ℕ)

/-- The position at round 0 of a transfer cell, the token of its duty, its credit, and its counter closed at zero. -/
abbrev pos (c : Dev nD) (f j : Fin 8) : sProp 𝕄 := atPos ER (xCell c f j) 0 ∅ 0
/-- The token of a transfer cell's duty. -/
abbrev tok (c : Dev nD) (f j : Fin 8) : sProp 𝕄 := dutyTok ER (xCell c f j) 0 0
/-- The credit of one transfer. -/
abbrev crd (c : Dev nD) (f j : Fin 8) : sProp 𝕄 := cred (tallyAt (xCell c f j) () N)
/-- A transfer cell closed at zero. -/
abbrev shut (c : Dev nD) (f j : Fin 8) : sProp 𝕄 := semVal (xCell c f j) 0

/-- The wait for a chunk's transfer on device `c`, owing only what lies above the cell: it hands over the family's payload,
    and the cell, done with, closes at zero. -/
theorem wp_take (c : Dev nD) (f j : Fin 8) (hact : act f c = true) {s : DmaSem sig} (hs : s = dsem f j)
    {src dst : Memref sig .tc .vmem S128x512 .f32} (hN : dst.view.dmaCredit = N)
    {hsrc : src.view.WordExact} {hdst : dst.view.WordExact} {O : CellTallies nD τ sig Unit} (hO : Above (lvl (some (f, j))) O)
    {k : PUnit → Step F} {Q : PUnit → sProp 𝕄} :
    iprop(env m ρ K ∗ crd c f j ∗ (∃ W, owes (c : Thread nD τ) O W) ∗ pos c f j)
      ⊢ iprop((((∃ W, owes (c : Thread nD τ) O W) ∗ shut c f j ∗ xferPay m ρ c f j) -∗ WP c (k ⟨⟩) Q)
          -∗ WP c (.op (.waitDma2 s src dst hsrc hdst) k) Q) := by
  subst hs
  iintro ⟨#He, Hc, ⟨%W, HO⟩, Hat⟩ Hk
  iapply (Rounds.wp_wait_rest_token 𝒱₀ ER (Rd m ρ) (c : Thread nD τ) none (κ := K (c, some (f, j)))
      (wpE_waitDma2_eq 𝒱₀ (c : Thread nD τ) none Set.univ) (Set.mem_univ _) () (O := O) (W := W) (R := 0) (m := 0) (T := ∅)
      (by rw [hN, Nat.zero_add]; exact (expect_x m ρ c f j hact).symm)) $$ [Hc HO Hat]
  · isplitr; · iapply (env_inv m ρ K (c, some (f, j))); iexact He
    isplitl [Hc]; · rw [hN]; iexact Hc
    isplitl [HO]; · iexact HO
    isplitr; · iapply (env_wait m ρ K c (some (f, j)) hO); iexact He
    iexact Hat
  iintro ⟨HO, Hat, -, Hpay⟩
  ihave Hp := (Entails.of_eq (rest_x m ρ c f j hact)) $$ Hpay
  imod (Rounds.cell_close ER (Rd m ρ) (Set.mem_univ (K (c, some (f, j)))) (fun h => h) (R := 0 + 1) (duties_later m ρ (xCell c f j))) $$ [Hat] with Hz
  · isplitr; · iapply (env_inv m ρ K (c, some (f, j))); iexact He
    iexact Hat
  iapply Hk
  isplitl [HO]; · iexists _; iexact HO
  isplitl [Hz]; · iexact Hz
  iexact Hp

/-- An unused transfer cell closes at once. -/
theorem shut_unused (c : Dev nD) (f j : Fin 8) (hact : act f c = false) :
    iprop(env m ρ K ∗ pos c f j) ⊢ |={Set.univ}=> shut c f j := by
  iintro ⟨#He, Hat⟩
  iapply (Rounds.cell_close ER (Rd m ρ) (Set.mem_univ (K (c, some (f, j)))) (fun h => h) (R := 0) (duties_unused m ρ c f j hact))
  isplitr; · iapply (env_inv m ρ K (c, some (f, j))); iexact He
  iexact Hat

/-- A transfer of a chunk from device `c` to device `d`: it pays the duties of its send cell and of `d`'s receive cell, so
    the source share makes the first's payload and the chunk written makes the second's. -/
theorem wp_put (c : Dev nD) {n d : Dev nD} (hn : n = d) (fS fR j : Fin 8) (hactS : act fS c = true) (hactR : act fR d = true)
    {sS sR : DmaSem sig} (hsS : sS = dsem fS j) (hsR : sR = dsem fR j)
    {src src' dst dst' : Memref sig .tc .vmem S128x512 .f32} (esrc : src = src') (edst : dst = dst') (hN : dst'.view.dmaCredit = N)
    {hsc : (dst : Memref sig (Dev.tc n : Thread nD τ).2.kind .vmem S128x512 .f32).view.ref.isScScratch = false}
    {hsrc : src.view.WordExact} {hdst : dst.view.WordExact}
    {hsem : DmaTarget.Typed .vmem (.dma sR) (.remote (Dev.tc n : Thread nD τ) (dst : Memref sig .tc .vmem S128x512 .f32) (.dma sS) hsc)}
    {q : PosShare TreeShare} {fs : Buf (Elt F) (src'.view.loc (c : Thread nD τ))} {fd : Buf (Elt F) (dst'.view.loc (d : Thread nD τ))}
    (hpayS : (src'.view.loc (c : Thread nD τ) ↦[src'.view.set]{q} fs : sProp 𝕄) ⊢ xferPay m ρ c fS j)
    (hpayR : (dst'.view.loc (d : Thread nD τ) ↦[dst'.view.set]{fullShare} (dst'.view.write (Elt F) fd (src'.view.read (Elt F) fs) Finset.univ) : sProp 𝕄)
      ⊢ xferPay m ρ d fR j)
    {O₀ : CellTallies nD τ sig Unit} (O : CellTallies nD τ sig Unit) (hO : O₀ = O + tallyAt (xCell d fR j) () N)
    {k : PUnit → Step F} {Q : PUnit → sProp 𝕄} :
    iprop(env m ρ K ∗ (src'.view.loc (c : Thread nD τ) ↦[src'.view.set]{q} fs) ∗ (dst'.view.loc (d : Thread nD τ) ↦[dst'.view.set]{fullShare} fd)
        ∗ (∃ W, owes (c : Thread nD τ) O₀ W) ∗ tok c fS j ∗ tok d fR j)
      ⊢ iprop(((crd c fS j ∗ (∃ W, owes (c : Thread nD τ) O W)) -∗ WP c (k ⟨⟩) Q)
          -∗ WP c (.op (.enqueueDma src (.remote (Dev.tc n : Thread nD τ) dst (.dma sS) hsc) (.dma sR) hsrc hdst hsem) k) Q) := by
  subst hn hsS hsR esrc edst
  iintro ⟨#He, Hs, Hd, ⟨%W, HO⟩, HtS, HtR⟩ Hk
  iapply (Rounds.wp_send_pointsTo 𝒱₀ ER (Rd m ρ) (c : Thread nD τ) none (κ₁ := K (c, some (fS, j))) (κ₂ := K (n, some (fR, j)))
      (r₁ := 0) (r₂ := 0) (d₁ := 0) (d₂ := 0) (fd := fd) (mem_x m ρ c fS j hactS) (mem_x m ρ n fR j hactR)
      () () N hN (amount_x m ρ c fS j 0) (amount_x m ρ n fR j 0) O hO (W := W)
      (hpayS.trans (Entails.of_eq (payload_cell m ρ c (some (fS, j)) 0).symm))
      (hpayR.trans (Entails.of_eq (payload_cell m ρ n (some (fR, j)) 0).symm))) $$ [Hs Hd HO HtS HtR]
  · isplitr; · iapply (env_inv m ρ K (c, some (fS, j))); iexact He
    isplitr; · iapply (env_inv m ρ K (n, some (fR, j))); iexact He
    isplitl [Hs]; · iexact Hs
    isplitl [Hd]; · iexact Hd
    isplitl [HO]; · iexact HO
    isplitl [HtS]; · iexact HtS
    isplitr; · iapply (env_reached m ρ K (c, some (fS, j))); iexact He
    isplitl [HtR]; · iexact HtR
    iapply (env_reached m ρ K (n, some (fR, j))); iexact He
  iintro ⟨Hc, HO⟩
  iapply Hk
  isplitl [Hc]; · iexact Hc
  iexists W; iexact HO

/-- A signal to device `d`'s barrier cell pays its duty `b` there. -/
theorem wp_ring (c : Dev nD) {n d : Dev nD} (hn : n = d) (b : Fin 3) (hb : b ∈ dutiesOf d none)
    {O₀ : CellTallies nD τ sig Unit} (O : CellTallies nD τ sig Unit) (hO : O₀ = O + tallyAt (barCell d) () 1)
    {k : PUnit → Step F} {Q : PUnit → sProp 𝕄} :
    iprop(env m ρ K ∗ (∃ W, owes (c : Thread nD τ) O₀ W) ∗ dutyTok ER (barCell d) 0 b ∗ barPay d b)
      ⊢ iprop(((∃ W, owes (c : Thread nD τ) O W) -∗ WP c (k ⟨⟩) Q)
          -∗ WP c (.op (.semSignal (n : Thread nD τ) barS 1) k) Q) := by
  subst hn
  iintro ⟨#He, ⟨%W, HO⟩, Ht, Hp⟩ Hk
  iapply (Rounds.wp_signal 𝒱₀ ER (Rd m ρ) (c : Thread nD τ) none (dst := (n : Thread nD τ)) (κ := K (n, none))
      (d := b) (by rw [show ((n : Thread nD τ), SemLoc.reg barS) = barCell n from rfl, duties_cell]; exact hb) (amount_bar m ρ n b) () O hO (W := W)) $$ [HO Ht Hp]
  · isplitr; · iapply (env_inv m ρ K (n, none)); iexact He
    isplitl [HO]; · iexact HO
    isplitl [Ht]; · iexact Ht
    isplitl [Hp]; · iapply (Entails.of_eq (show barPay n b = (Rd m ρ).payload (barCell n) 0 b from (payload_cell m ρ n none b).symm)); iexact Hp
    iapply (env_reached m ρ K (n, none)); iexact He
  iintro HO
  iapply Hk
  iexists W; iexact HO

/-- The wait on its own barrier cell: it hands over what the signals brought, and the cell closes at zero. -/
theorem wp_barrier (c : Dev nD) {n : ℕ} (hn : n = if isMid c then 3 else 2) {O : CellTallies nD τ sig Unit} (hO : Above 1 O)
    {k : PUnit → Step F} {Q : PUnit → sProp 𝕄} :
    iprop(env m ρ K ∗ cred (tallyAt (barCell c) () n) ∗ (∃ W, owes (c : Thread nD τ) O W) ∗ atPos ER (barCell c) 0 ∅ 0)
      ⊢ iprop((((∃ W, owes (c : Thread nD τ) O W) ∗ semVal (barCell c) 0 ∗ bigSep (dutiesOf c none) (barPay c)) -∗ WP c (k ⟨⟩) Q)
          -∗ WP c (.op (.semWait barS n) k) Q) := by
  iintro ⟨#He, Hc, ⟨%W, HO⟩, Hat⟩ Hk
  iapply (Rounds.wp_wait_rest_token 𝒱₀ ER (Rd m ρ) (c : Thread nD τ) none (κ := K (c, none))
      (wpE_semWait_eq 𝒱₀ (c : Thread nD τ) none Set.univ) (Set.mem_univ _) () (O := O) (W := W) (R := 0) (m := 0) (T := ∅)
      (by rw [Nat.zero_add, hn]; exact (expect_bar m ρ c).symm)) $$ [Hc HO Hat]
  · isplitr; · iapply (env_inv m ρ K (c, none)); iexact He
    isplitl [Hc]; · iexact Hc
    isplitl [HO]; · iexact HO
    isplitr; · iapply (env_wait m ρ K c none hO); iexact He
    iexact Hat
  iintro ⟨HO, Hat, -, Hpay⟩
  imod (Rounds.cell_close ER (Rd m ρ) (Set.mem_univ (K (c, none))) (fun h => h) (R := 0 + 1) (duties_later m ρ (barCell c))) $$ [Hat] with Hz
  · isplitr; · iapply (env_inv m ρ K (c, none)); iexact He
    iexact Hat
  iapply Hk
  isplitl [HO]; · iexists _; iexact HO
  isplitl [Hz]; · iexact Hz
  iapply (Entails.of_eq (show bigSep ((Rd (F := F) m ρ).duties (barCell c) 0 \ ∅) (fun d => (Rd (F := F) m ρ).payload (barCell c) 0 d) = bigSep (dutiesOf c none) (barPay c) from by
    rw [Finset.sdiff_empty, duties_cell]; exact bigSep_congr fun d _ => payload_cell m ρ c none d))
  iexact Hpay

/-! ## The chunk memrefs the printed body names -/

/-- A slice of the staging buffers at an offset equal to a chunk's is that chunk. -/
theorem slice_x {off : Fin 2 → ℕ} {inb : ∀ a, off a + S128x512.size a ≤ S2048x512.size a} {k : Fin 16} (e : off = ![128 * k.val, 0]) :
    (xM.slice (Rect.unit (s := S2048x512) off S128x512.size inb) (fun _ => rfl) : Memref sig .tc .vmem S128x512 .f32) = xB k := by subst e; rfl
/-- The same for the result staging buffer. -/
theorem slice_o {off : Fin 2 → ℕ} {inb : ∀ a, off a + S128x512.size a ≤ S2048x512.size a} {k : Fin 16} (e : off = ![128 * k.val, 0]) :
    (oM.slice (Rect.unit (s := S2048x512) off S128x512.size inb) (fun _ => rfl) : Memref sig .tc .vmem S128x512 .f32) = oB k := by subst e; rfl

/-! ## Contents written to a chunk -/

/-- Writing back through a view what is read of a buffer through a view at the same elements leaves that buffer's numbers
    there: the landing of a chunk in the result staging buffer. -/
theorem land_x (k : Fin 16) (d : Dev nD) (fd : Big F) (f : Big F) :
    ((oB k).view.loc (d : Thread nD τ) ↦[(oB k).view.set]{fullShare} ((oB k).view.write (Elt F) fd ((xB k).view.read (Elt F) f) Finset.univ) : sProp 𝕄)
      = oPts d k fullShare f := by
  refine pointsTo_congr fun i hi => ?_
  obtain ⟨y, -, rfl⟩ := Finset.mem_map.mp hi
  rw [View.write_emb_of_mem _ _ (Finset.mem_univ y)]; rfl
/-- The same from a chunk of a result staging buffer. -/
theorem land_o (k : Fin 16) (d : Dev nD) (fd : Big F) (f : Big F) :
    ((oB k).view.loc (d : Thread nD τ) ↦[(oB k).view.set]{fullShare} ((oB k).view.write (Elt F) fd ((oB k).view.read (Elt F) f) Finset.univ) : sProp 𝕄)
      = oPts d k fullShare f := land_x k d fd f

/-- A chunk of the result staging buffer landing in the landing buffer is read back there. -/
theorem land_r (j : Fin 8) (c : Dev nD) (fd : Buf (Elt F) ((slabM j).view.loc (c : Thread nD τ))) :
    ((slabM j).view.loc (c : Thread nD τ) ↦[(slabM j).view.set]{fullShare}
        ((slabM j).view.write (Elt F) fd ((oB (own c j)).view.read (Elt F) (A m ρ (mp c))) Finset.univ) : sProp 𝕄)
      ⊢ landed m ρ c j := by
  unfold landed
  iintro H
  iexists ((slabM j).view.write (Elt F) fd ((oB (own c j)).view.read (Elt F) (A m ρ (mp c))) Finset.univ)
  isplitr
  · ipureintro; exact View.read_write_univ _ _
  · iexact H

/-- Loading a chunk of the result staging buffer, or of `x`, at an offset equal to a chunk's reads that chunk. -/
theorem wp_load_o (c : Dev nD) (k : Fin 16) (q : PosShare TreeShare) (f : Big F) {off : Fin 2 → ℕ} (e : off = ![128 * k.val, 0])
    {inb : ∀ a, off a + S128x512.size a ≤ S2048x512.size a}
    {hl : (oM : Memref sig .tc .vmem S2048x512 .f32).view.LoadsAt (Rect.unit (s := S2048x512) off S128x512.size inb).toLoadRect}
    {g : Vec F S128x512 .f32 → Step F} {Q : PUnit → sProp 𝕄} :
    oPts c k q f ⊢ iprop((oPts c k q f -∗ WP c (g ((oB k).view.read (Elt F) f)) Q)
      -∗ WP c (.op (.load oM (Rect.unit (s := S2048x512) off S128x512.size inb).toLoadRect hl) g) Q) := by
  subst e
  exact wp_load_rect 𝒱₀ (c : Thread nD τ) none Set.univ (m := oM) (r := band k) (Finset.Subset.refl _)
/-- The same for a chunk of `x`. -/
theorem wp_load_x (c : Dev nD) (k : Fin 16) (f : Big F) {off : Fin 2 → ℕ} (e : off = ![128 * k.val, 0])
    {inb : ∀ a, off a + S128x512.size a ≤ S2048x512.size a}
    {hl : (xM : Memref sig .tc .vmem S2048x512 .f32).view.LoadsAt (Rect.unit (s := S2048x512) off S128x512.size inb).toLoadRect}
    {g : Vec F S128x512 .f32 → Step F} {Q : PUnit → sProp 𝕄} :
    xPts c k f ⊢ iprop((xPts c k f -∗ WP c (g ((xB k).view.read (Elt F) f)) Q)
      -∗ WP c (.op (.load xM (Rect.unit (s := S2048x512) off S128x512.size inb).toLoadRect hl) g) Q) := by
  subst e
  exact wp_load_rect 𝒱₀ (c : Thread nD τ) none Set.univ (m := xM) (r := band k) (Finset.Subset.refl _)
/-- Loading a chunk of the landing buffer, its cast to two axes being what the chunk's squeezed view reads. -/
theorem wp_load_r (c : Dev nD) (j : Fin 8) (f : Buf (Elt F) ((slabM j).view.loc (c : Thread nD τ)))
    {hl : (rM : Memref sig .tc .vmem S8x128x512 .f32).view.LoadsAt (slab j).toLoadRect}
    {g : Vec F S1x128x512 .f32 → Step F} {Q : PUnit → sProp 𝕄} :
    rPts c j f ⊢ iprop((rPts c j f -∗ WP c (g ((rM.access (slab j)).read (Elt F) f)) Q)
      -∗ WP c (.op (.load rM (slab j).toLoadRect hl) g) Q) :=
  wp_load_rect 𝒱₀ (c : Thread nD τ) none Set.univ (m := rM) (r := slab j) (f := f)
    (Finset.Subset.trans (Finset.Subset.refl _) (Finset.Subset.antisymm_iff.mp (View.set_reshape _ _)).2)

/-- Storing to a chunk of the result staging buffer what a whole buffer's numbers read there. -/
theorem wp_store_o (c : Dev nD) (k : Fin 16) (f f' : Big F) {w : Vec F S128x512 .f32} (hw : w = (oB k).view.read (Elt F) f')
    {off : Fin 2 → ℕ} (e : off = ![128 * k.val, 0])
    {inb : ∀ a, off a + S128x512.size a ≤ S2048x512.size a}
    {hx : ((oM : Memref sig .tc .vmem S2048x512 .f32).access (Rect.unit (s := S2048x512) off S128x512.size inb)).Stores Finset.univ}
    {hm} {g : PUnit → Step F} {Q : PUnit → sProp 𝕄} :
    oPts c k fullShare f ⊢ iprop((oPts c k fullShare f' -∗ WP c (g ⟨⟩) Q)
      -∗ WP c (.op (.store oM (Rect.unit (s := S2048x512) off S128x512.size inb) w Finset.univ hx hm) g) Q) := by
  subst e hw
  rw [← land_o k c f f']
  exact wp_store 𝒱₀ (c : Thread nD τ) none Set.univ (m := oM) (r := band k) (Mk := Finset.univ) (Finset.Subset.refl _)

/-- The printed pair sum of a chunk (received first, own second) is the chunk read of the pair sum; -/
theorem pair_read (c : Dev nD) (k : Fin 16) :
    k0_pay1 ((oB k).view.read (Elt F) (X m ρ (zp c))) ((xB k).view.read (Elt F) (X m ρ c)) = (oB k).view.read (Elt F) (A m ρ c) := by
  unfold k0_pay1
  rw [shapeCast_self, shapeCast_self]
  rfl

/-- the printed total of a chunk, from the pair sum and what landed of the other, is the chunk read of the total. -/
theorem total_read (c : Dev nD) (j : Fin 8) (k : Fin 16) (f : Buf (Elt F) ((slabM j).view.loc (c : Thread nD τ)))
    (hf : (slabM j).view.read (Elt F) f = (oB k).view.read (Elt F) (A m ρ (mp c))) :
    k0_pay6 ((oB k).view.read (Elt F) (A m ρ c)) ((rM.access (slab j)).read (Elt F) f) = (oB k).view.read (Elt F) (B m ρ c) := by
  have e : shapeCast S128x512 ((rM.access (slab j)).read (Elt F) f) shapeCasts_S1x128x512_S128x512 = (slabM j).view.read (Elt F) f :=
    (Memref.read_squeeze_slice rM (slab j) (fun _ => rfl) squeezes_S1x128x512_S128x512 shapeCasts_S1x128x512_S128x512 f).symm
  unfold k0_pay6
  rw [shapeCast_self, e, hf]
  rfl

end Cert.KernelIdeal.ZSum

end
-- ==== Proof.Steps.lean ====
/-
# The steps of a chunk

For an end device and for a middle device: what is held of a chunk before each of its steps, what is still owed for it,
that each step takes the one to the next, and that the steps of all eight chunks in the printed order take every chunk
from its first state to its last.
-/
module

public import proofs.«01_k».proof.Proof.Rules

@[expose] public section

noncomputable section

namespace Cert.KernelIdeal.ZSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Cell → ℕ)

/-! ## A list of steps, each moving one chunk to its next state -/

section Order
variable {n : ℕ}

/-- Which state each chunk is in after a step `(p, j)`: chunk `j` in state `p + 1`. -/
def next (φ : Fin 8 → ℕ) (s : Fin n × Fin 8) : Fin 8 → ℕ := Function.update φ s.2 (s.1.val + 1)

/-- Every step of the list is allowed when it is reached. -/
def okAll (ok : (Fin 8 → ℕ) → Fin n × Fin 8 → Bool) : (Fin 8 → ℕ) → List (Fin n × Fin 8) → Bool
  | _, [] => true
  | φ, s :: l => ok φ s && okAll ok (next φ s) l

/-- Steps that keep an invariant of the states keep it along a list. -/
theorem run_order (c : Dev nD) (prog : Fin n × Fin 8 → Step F) (ok : (Fin 8 → ℕ) → Fin n × Fin 8 → Bool) (Inv : (Fin 8 → ℕ) → sProp 𝕄)
    (hstep : ∀ φ s, ok φ s = true → ∀ Q : PUnit → sProp 𝕄, iprop(Inv φ ∗ (Inv (next φ s) -∗ Q ⟨⟩)) ⊢ WP c (prog s) Q)
    (l : List (Fin n × Fin 8)) (φ : Fin 8 → ℕ) (hl : okAll ok φ l = true) (Q : PUnit → sProp 𝕄) :
    iprop(Inv φ ∗ (Inv (l.foldl next φ) -∗ Q ⟨⟩)) ⊢ WP c (run (l.map prog)) Q := by
  induction l generalizing φ with
  | nil =>
    iintro ⟨HI, Hk⟩
    unfold WP
    rw [List.map_nil, List.foldl_nil, run, Prog.pure_eq_ret, wp_ret]
    imodintro
    iapply Hk; iexact HI
  | cons s l ih =>
    rw [okAll, Bool.and_eq_true] at hl
    unfold WP
    rw [List.map_cons, List.foldl_cons, run, wp_bind]
    iintro ⟨HI, Hk⟩
    iapply (hstep φ s hl.1)
    isplitl [HI]; · iexact HI
    iintro HI
    iapply (ih (next φ s) hl.2)
    isplitl [HI]; · iexact HI
    iexact Hk

/-- What is held of all the chunks, and what is owed for them. -/
def Inv (c : Dev nD) (St : Fin 8 → ℕ → sProp 𝕄) (Ow : Fin 8 → ℕ → CellTallies nD τ sig Unit) (φ : Fin 8 → ℕ) : sProp 𝕄 :=
  iprop(env m ρ K ∗ (bigSep Finset.univ fun j => St j (φ j)) ∗ ∃ W, owes (c : Thread nD τ) (∑ j, Ow j (φ j)) W)

/-- A step of one chunk, whatever the others owe, is a step of all. -/
theorem step_lift (c : Dev nD) (St : Fin 8 → ℕ → sProp 𝕄) (Ow : Fin 8 → ℕ → CellTallies nD τ sig Unit) (φ : Fin 8 → ℕ)
    (s : Fin n × Fin 8) (p : Step F) (hφ : φ s.2 = s.1.val) (Q : PUnit → sProp 𝕄)
    (h : ∀ R : CellTallies nD τ sig Unit, R = ∑ i ∈ Finset.univ.erase s.2, Ow i (φ i) →
      iprop(env m ρ K ∗ St s.2 s.1.val ∗ ∃ W, owes (c : Thread nD τ) (Ow s.2 s.1.val + R) W)
        ⊢ iprop(((St s.2 (s.1.val + 1) ∗ ∃ W, owes (c : Thread nD τ) (Ow s.2 (s.1.val + 1) + R) W) -∗ Q ⟨⟩) -∗ WP c p Q)) :
    iprop(Inv m ρ K c St Ow φ ∗ (Inv m ρ K c St Ow (next φ s) -∗ Q ⟨⟩)) ⊢ WP c p Q := by
  have e1 : (∑ j, Ow j (φ j)) = Ow s.2 s.1.val + ∑ i ∈ Finset.univ.erase s.2, Ow i (φ i) := by
    rw [← Finset.add_sum_erase Finset.univ _ (Finset.mem_univ s.2), hφ]
  have e2 : (∑ j, Ow j (next φ s j)) = Ow s.2 (s.1.val + 1) + ∑ i ∈ Finset.univ.erase s.2, Ow i (φ i) := by
    rw [← Finset.add_sum_erase Finset.univ _ (Finset.mem_univ s.2)]
    congr 1
    · simp only [next, Function.update_self]
    · exact Finset.sum_congr rfl fun i hi => by simp only [next, Function.update_of_ne (Finset.ne_of_mem_erase hi)]
  have b1 : bigSep Finset.univ (fun j => St j (φ j)) = iprop(St s.2 s.1.val ∗ bigSep (Finset.univ.erase s.2) fun j => St j (φ j)) := by
    rw [bigSep_univ_at _ s.2, hφ]
  have b2 : bigSep Finset.univ (fun j => St j (next φ s j)) = iprop(St s.2 (s.1.val + 1) ∗ bigSep (Finset.univ.erase s.2) fun j => St j (φ j)) := by
    rw [bigSep_univ_at _ s.2]
    congr 1
    · simp only [next, Function.update_self]
    · exact bigSep_congr fun i hi => by simp only [next, Function.update_of_ne (Finset.ne_of_mem_erase hi)]
  unfold Inv
  rw [e1, e2, b1, b2]
  iintro ⟨⟨#He, ⟨Hs, Hrest⟩, HO⟩, Hk⟩
  iapply (h _ rfl) $$ [Hs HO]
  · isplitr; · iexact He
    isplitl [Hs] <;> iassumption
  iintro ⟨Hs, HO⟩
  iapply Hk
  isplitr; · iexact He
  isplitr [HO]
  · isplitl [Hs] <;> iassumption
  · iexact HO

end Order

/-! ## The neighbours' chunks and totals -/

/-- Neighbours along `z` have the same own chunks. -/
theorem own_zp (c : Dev nD) (j : Fin 8) : own (zp c) j = own c j := by rw [own, half_zp]
/-- The two middle devices have the same own chunks. -/
theorem own_mp (c : Dev nD) (j : Fin 8) : own (mp c) j = own c j := by rw [own, half_mp]
/-- On a middle device the total is the one that it forms. -/
theorem T_mid (c : Dev nD) (h : isMid c) : T m ρ c = B m ρ c := if_pos h

/-- The chunk a device's `x` lands in on its `z` neighbour. -/
theorem pay_x (c : Dev nD) (j : Fin 8) : xferPay m ρ (zp c) 1 j = oPts (zp c) (own c j) fullShare (X m ρ c) := by
  dsimp only [xferPay]; rw [own_zp, zp_zp]
/-- The chunk a device's total lands in on its `z` neighbour, -/
theorem pay_back (c : Dev nD) (j : Fin 8) : xferPay m ρ (zp c) 5 j = oPts (zp c) (own c j) fullShare (T m ρ c) := by
  dsimp only [xferPay]; rw [own_zp, T_zp]
/-- and on its `y` neighbour. -/
theorem pay_y (c : Dev nD) (j : Fin 8) : xferPay m ρ (yp c) 7 j = oPts (yp c) (own c j) fullShare (T m ρ c) := by
  dsimp only [xferPay]; rw [par_yp, yp_yp]

/-- A chunk held whole is its two half shares. -/
theorem oPts_halves (d : Dev nD) (k : Fin 16) (f : Big F) :
    (oPts d k fullShare f : sProp 𝕄) ⊣⊢ iprop(oPts d k fullShare.left f ∗ oPts d k fullShare.right f) :=
  pointsTo_share (PosShare.mem_left_op_right fullShare)

end Cert.KernelIdeal.ZSum

end
-- ==== Proof.EndSteps.lean ====
/-
# An end device's steps
-/
module

public import proofs.«01_k».proof.Proof.Steps

@[expose] public section

noncomputable section

namespace Cert.KernelIdeal.ZSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Cell → ℕ)

/-- What an end device holds of chunk `j`: at the start; with its `x` sent; with the total come and passed on; with the other
    half come; with its `x` back; with its result whole. -/
def StE (c : Dev nD) (j : Fin 8) : ℕ → sProp 𝕄
  | 0 => iprop(xPts c (own c j) (X m ρ c) ∗ (∃ f, oPts (F := F) (zp c) (own c j) fullShare f) ∗ (∃ f, oPts (F := F) (yp c) (own c j) fullShare f)
      ∗ (tok c 0 j ∗ tok (zp c) 1 j ∗ tok c 6 j ∗ tok (yp c) 7 j) ∗ (pos c 0 j ∗ pos c 5 j ∗ pos c 6 j ∗ pos c 7 j) ∗ crd c 5 j ∗ crd c 7 j)
  | 1 => iprop((∃ f, oPts (F := F) (yp c) (own c j) fullShare f) ∗ (tok c 6 j ∗ tok (yp c) 7 j)
      ∗ (pos c 0 j ∗ pos c 5 j ∗ pos c 6 j ∗ pos c 7 j) ∗ crd c 0 j ∗ crd c 5 j ∗ crd c 7 j)
  | 2 => iprop(oPts c (own c j) fullShare.left (T m ρ c) ∗ (pos c 0 j ∗ pos c 6 j ∗ pos c 7 j) ∗ crd c 0 j ∗ crd c 6 j ∗ crd c 7 j ∗ shut c 5 j)
  | 3 => iprop(oPts c (own c j) fullShare.left (T m ρ c) ∗ oPts c (par c j) fullShare (T m ρ (yp c)) ∗ (pos c 0 j ∗ pos c 6 j) ∗ crd c 0 j ∗ crd c 6 j
      ∗ shut c 5 j ∗ shut c 7 j)
  | 4 => iprop(oPts c (own c j) fullShare.left (T m ρ c) ∗ oPts c (par c j) fullShare (T m ρ (yp c)) ∗ xPts c (own c j) (X m ρ c) ∗ pos c 6 j ∗ crd c 6 j
      ∗ shut c 5 j ∗ shut c 7 j ∗ shut c 0 j)
  | _ => iprop(oPts c (own c j) fullShare (T m ρ c) ∗ oPts c (par c j) fullShare (T m ρ (yp c)) ∗ xPts c (own c j) (X m ρ c)
      ∗ shut c 5 j ∗ shut c 7 j ∗ shut c 0 j ∗ shut c 6 j)

/-- What it owes for the chunk: its `x` to its `z` neighbour, the total to its `y` neighbour. -/
def OwE (c : Dev nD) (j : Fin 8) : ℕ → CellTallies nD τ sig Unit
  | 0 => tallyAt (xCell (yp c) 7 j) () N + tallyAt (xCell (zp c) 1 j) () N
  | 1 => tallyAt (xCell (yp c) 7 j) () N
  | _ => 0

/-- A step is taken in the chunk's own order, the later ones once every chunk is past the sends they follow. -/
def okE (φ : Fin 8 → ℕ) (s : Fin 5 × Fin 8) : Bool :=
  decide (φ s.2 = s.1.val) && (decide (s.1.val = 1 → ∀ i, 1 ≤ φ i) && decide (2 ≤ s.1.val → ∀ i, 2 ≤ φ i))

/-- What an end device still owes for chunk `i` after `p` sends lies above level `ℓ`. -/
theorem aboveE (c : Dev nD) (i : Fin 8) (p ℓ : ℕ) (h0 : 1 ≤ p ∨ ℓ < 2) (h1 : 2 ≤ p ∨ ℓ < 30) : Above ℓ (OwE c i p) := by
  rcases p with _ | _ | p
  · exact above_add (above_tally _ _ _ (by show ℓ < 30; omega)) (above_tally _ _ _ (by show ℓ < 2; omega))
  · exact above_tally _ _ _ (by show ℓ < 30; omega)
  · exact above_zero ℓ

section
variable (c : Dev nD) (h : k0_cond3 c = 1#1)

/-- The families that an end device's steps use, its own and its neighbours'. -/
theorem act_end (hc : ¬ isMid c) : act 0 c = true ∧ act 5 c = true ∧ act 6 c = true ∧ act 7 c = true ∧ act 1 (zp c) = true ∧ act 7 (yp c) = true := by
  have := (isMid_zp c).mpr hc
  simp [act, hc, this]

/-- Each step of an end device, on any chunk, from its state to the next. -/
theorem end_step (φ : Fin 8 → ℕ) (s : Fin 5 × Fin 8) (hok : okE φ s = true) (Q : PUnit → sProp 𝕄) :
    iprop(Inv m ρ K c (StE m ρ c) (OwE c) φ ∗ (Inv m ρ K c (StE m ρ c) (OwE c) (next φ s) -∗ Q ⟨⟩)) ⊢ WP c (stepE c h s) Q := by
  have hc : ¬ isMid c := (cond3_iff c).mp h
  obtain ⟨a0, a5, a6, a7, a1z, a7y⟩ := act_end c hc
  rw [okE, Bool.and_eq_true, Bool.and_eq_true, decide_eq_true_iff, decide_eq_true_iff, decide_eq_true_iff] at hok
  obtain ⟨hφ, hok1, hok2⟩ := hok
  obtain ⟨p, j⟩ := s
  refine step_lift m ρ K c _ _ φ (p, j) _ hφ Q ?_
  intro R hR
  -- what is left owed lies above the level of the step's wait
  have hR' (ℓ : ℕ) (h1 : 1 ≤ p.val) (h2 : 2 ≤ p.val ∨ ℓ < 30) : Above ℓ R := by
    rw [hR]
    refine above_sum _ _ fun i _ => ?_
    rcases Nat.lt_or_ge p.val 2 with hp | hp
    · have := hok1 (by show p.val = 1; omega) i
      exact aboveE c i _ ℓ (by omega) (by omega)
    · have := hok2 hp i
      exact aboveE c i _ ℓ (by omega) (by omega)
  fin_cases p
  · -- the send of `x`
    show iprop(env m ρ K ∗ StE m ρ c j 0 ∗ ∃ W, owes (c : Thread nD τ) (OwE c j 0 + R) W)
      ⊢ iprop(((StE m ρ c j 1 ∗ ∃ W, owes (c : Thread nD τ) (OwE c j 1 + R) W) -∗ Q ⟨⟩) -∗ WP c (sendXE c h j) Q)
    unfold sendXE
    simp only [Prog.lift, StE]
    iintro ⟨#He, ⟨Hx, ⟨%fz, Hz⟩, Hy, ⟨Ht0, Ht1, Ht6, Ht7⟩, Hpos, Hc5, Hc7⟩, HO⟩ Hk
    iapply (wp_put m ρ K c (d := zp c) (Fin.ext (dev6_at c hc)) 0 1 j a0 a1z (at8_1 j) (at8_2 j) (slice_x (off1_at c j)) (slice_o (off1_at c j)) (credit_o _)
      (q := fullShare) (fs := X m ρ c) (fd := fz) (BI.Entails.refl _) (by rw [pay_x, land_x])
      (OwE c j 1 + R) (by simp only [OwE]; exact add_right_comm _ _ _)) $$ [Hx Hz HO Ht0 Ht1]
    · isplitr; · iexact He
      isplitl [Hx]; · iexact Hx
      isplitl [Hz]; · iexact Hz
      isplitl [HO]; · iexact HO
      isplitl [Ht0] <;> iassumption
    iintro ⟨Hc0, HO⟩
    unfold WP; rw [wp_ret]; imodintro
    iapply Hk
    isplitr [HO]
    · isplitl [Hy]; · iexact Hy
      isplitl [Ht6 Ht7]; · isplitl [Ht6] <;> iassumption
      isplitl [Hpos]; · iexact Hpos
      isplitl [Hc0]; · iexact Hc0
      isplitl [Hc5] <;> iassumption
    · iexact HO
  · -- the total come, and passed on
    show iprop(env m ρ K ∗ StE m ρ c j 1 ∗ ∃ W, owes (c : Thread nD τ) (OwE c j 1 + R) W)
      ⊢ iprop(((StE m ρ c j 2 ∗ ∃ W, owes (c : Thread nD τ) (OwE c j 2 + R) W) -∗ Q ⟨⟩) -∗ WP c (relayE c h j) Q)
    unfold relayE
    simp only [Prog.lift, Prog.bind_op, Prog.bind_ret, StE]
    iintro ⟨#He, ⟨⟨%fy, Hy⟩, ⟨Ht6, Ht7⟩, ⟨Hp0, Hp5, Hp6, Hp7⟩, Hc0, Hc5, Hc7⟩, HO⟩ Hk
    iapply (wp_take m ρ K c 5 j a5 (at8_6 j) (by exact credit_o 0)
      (above_add (aboveE c j 1 20 (by omega) (by omega)) (hR' 20 (by decide) (by omega)))) $$ [Hc5 HO Hp5]
    · isplitr; · iexact He
      isplitl [Hc5]; · iexact Hc5
      isplitl [HO] <;> iassumption
    iintro ⟨HO, Hz5, Hpay⟩
    ihave Hb := (show xferPay m ρ c 5 j ⊢ iprop(oPts c (own c j) fullShare.left (T m ρ c) ∗ oPts c (own c j) fullShare.right (T m ρ c)) from
      (oPts_halves c (own c j) (T m ρ c)).1) $$ Hpay
    icases Hb with ⟨HoL, HoR⟩
    iapply (wp_put m ρ K c (d := yp c) (Fin.ext (dev14_at c hc)) 6 7 j a6 a7y (at8_7 j) (at8_8 j) (slice_o (off1_at c j)) (slice_o (off1_at c j)) (credit_o _)
      (q := fullShare.right) (fs := T m ρ c) (fd := fy) (BI.Entails.refl _) (by rw [pay_y, land_o])
      (OwE c j 2 + R) (by simp only [OwE]; rw [zero_add, add_comm])) $$ [HoR Hy HO Ht6 Ht7]
    · isplitr; · iexact He
      isplitl [HoR]; · iexact HoR
      isplitl [Hy]; · iexact Hy
      isplitl [HO]; · iexact HO
      isplitl [Ht6] <;> iassumption
    iintro ⟨Hc6, HO⟩
    unfold WP; rw [wp_ret]; imodintro
    iapply Hk
    isplitr [HO]
    · isplitl [HoL]; · iexact HoL
      isplitl [Hp0 Hp6 Hp7]
      · isplitl [Hp0]; · iexact Hp0
        isplitl [Hp6] <;> iassumption
      isplitl [Hc0]; · iexact Hc0
      isplitl [Hc6]; · iexact Hc6
      isplitl [Hc7] <;> iassumption
    · iexact HO
  · -- the other half come
    show iprop(env m ρ K ∗ StE m ρ c j 2 ∗ ∃ W, owes (c : Thread nD τ) (OwE c j 2 + R) W)
      ⊢ iprop(((StE m ρ c j 3 ∗ ∃ W, owes (c : Thread nD τ) (OwE c j 3 + R) W) -∗ Q ⟨⟩) -∗ WP c (takeE c h j) Q)
    unfold takeE
    simp only [Prog.lift, StE]
    iintro ⟨#He, ⟨HoL, ⟨Hp0, Hp6, Hp7⟩, Hc0, Hc6, Hc7, Hz5⟩, HO⟩ Hk
    iapply (wp_take m ρ K c 7 j a7 (at8_8 j) (by exact credit_o 0)
      (above_add (aboveE c j 2 30 (by omega) (by omega)) (hR' 30 (by decide) (by exact Or.inl (by decide))))) $$ [Hc7 HO Hp7]
    · isplitr; · iexact He
      isplitl [Hc7]; · iexact Hc7
      isplitl [HO] <;> iassumption
    iintro ⟨HO, Hz7, Hpay⟩
    ihave Hpar := (show xferPay m ρ c 7 j ⊢ oPts c (par c j) fullShare (T m ρ (yp c)) from BI.Entails.refl _) $$ Hpay
    unfold WP; rw [wp_ret]; imodintro
    iapply Hk
    isplitr [HO]
    · isplitl [HoL]; · iexact HoL
      isplitl [Hpar]; · iexact Hpar
      isplitl [Hp0 Hp6]; · isplitl [Hp0] <;> iassumption
      isplitl [Hc0]; · iexact Hc0
      isplitl [Hc6]; · iexact Hc6
      isplitl [Hz5] <;> iassumption
    · iexact HO
  · -- its `x` back
    show iprop(env m ρ K ∗ StE m ρ c j 3 ∗ ∃ W, owes (c : Thread nD τ) (OwE c j 3 + R) W)
      ⊢ iprop(((StE m ρ c j 4 ∗ ∃ W, owes (c : Thread nD τ) (OwE c j 4 + R) W) -∗ Q ⟨⟩) -∗ WP c (doneXE c h j) Q)
    unfold doneXE
    simp only [Prog.lift, StE]
    iintro ⟨#He, ⟨HoL, Hpar, ⟨Hp0, Hp6⟩, Hc0, Hc6, Hz5, Hz7⟩, HO⟩ Hk
    iapply (wp_take m ρ K c 0 j a0 (at8_1 j) (by exact credit_x 0)
      (above_add (aboveE c j 3 0 (by omega) (by omega)) (hR' 0 (by decide) (by omega)))) $$ [Hc0 HO Hp0]
    · isplitr; · iexact He
      isplitl [Hc0]; · iexact Hc0
      isplitl [HO] <;> iassumption
    iintro ⟨HO, Hz0, Hpay⟩
    ihave Hx := (show xferPay m ρ c 0 j ⊢ xPts c (own c j) (X m ρ c) from BI.Entails.refl _) $$ Hpay
    unfold WP; rw [wp_ret]; imodintro
    iapply Hk
    isplitr [HO]
    · isplitl [HoL]; · iexact HoL
      isplitl [Hpar]; · iexact Hpar
      isplitl [Hx]; · iexact Hx
      isplitl [Hp6]; · iexact Hp6
      isplitl [Hc6]; · iexact Hc6
      isplitl [Hz5]; · iexact Hz5
      isplitl [Hz7] <;> iassumption
    · iexact HO
  · -- its result whole
    show iprop(env m ρ K ∗ StE m ρ c j 4 ∗ ∃ W, owes (c : Thread nD τ) (OwE c j 4 + R) W)
      ⊢ iprop(((StE m ρ c j 5 ∗ ∃ W, owes (c : Thread nD τ) (OwE c j 5 + R) W) -∗ Q ⟨⟩) -∗ WP c (doneYE c h j) Q)
    unfold doneYE
    simp only [Prog.lift, StE]
    iintro ⟨#He, ⟨HoL, Hpar, Hx, Hp6, Hc6, Hz5, Hz7, Hz0⟩, HO⟩ Hk
    iapply (wp_take m ρ K c 6 j a6 (at8_7 j) (by exact credit_o 0)
      (above_add (aboveE c j 4 0 (by omega) (by omega)) (hR' 0 (by decide) (by omega)))) $$ [Hc6 HO Hp6]
    · isplitr; · iexact He
      isplitl [Hc6]; · iexact Hc6
      isplitl [HO] <;> iassumption
    iintro ⟨HO, Hz6, Hpay⟩
    ihave HoR := (show xferPay m ρ c 6 j ⊢ oPts c (own c j) fullShare.right (T m ρ c) from BI.Entails.refl _) $$ Hpay
    unfold WP; rw [wp_ret]; imodintro
    iapply Hk
    isplitr [HO]
    · isplitl [HoL HoR]
      · iapply (oPts_halves c (own c j) (T m ρ c)).2
        isplitl [HoL]; · iexact HoL
        iexact HoR
      isplitl [Hpar]; · iexact Hpar
      isplitl [Hx]; · iexact Hx
      isplitl [Hz5]; · iexact Hz5
      isplitl [Hz7]; · iexact Hz7
      isplitl [Hz0] <;> iassumption
    · iexact HO

/-- The steps of an end device in the printed order take every chunk from its first state to its last, nothing owed then. -/
theorem end_run (Q : PUnit → sProp 𝕄) :
    iprop(Inv m ρ K c (StE m ρ c) (OwE c) (fun _ => 0) ∗ (Inv m ρ K c (StE m ρ c) (OwE c) (fun _ => 5) -∗ Q ⟨⟩))
      ⊢ WP c (run (endOrder.map (stepE c h))) Q := by
  have e : endOrder.foldl next (fun _ => 0) = fun _ => 5 := by funext j; revert j; decide
  rw [← e]
  exact run_order c (stepE c h) okE _ (fun φ s hok Q => end_step m ρ K c h φ s hok Q) endOrder _ (by decide) Q
end

end Cert.KernelIdeal.ZSum

end
-- ==== Proof.MidSteps.lean ====
/-
# A middle device's steps
-/
module

public import proofs.«01_k».proof.Proof.Steps

@[expose] public section

noncomputable section

namespace Cert.KernelIdeal.ZSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Cell → ℕ)

/-- What a middle device holds of chunk `j`: at the start; with its pair sum sent; with the total sent both ways; with the
    other half come; with its result whole. -/
def StM (c : Dev nD) (j : Fin 8) : ℕ → sProp 𝕄
  | 0 => iprop(xPts c (own c j) (X m ρ c) ∗ (∃ f, rPts (F := F) (mp c) j f)
      ∗ (∃ f, oPts (F := F) (zp c) (own c j) fullShare f) ∗ (∃ f, oPts (F := F) (yp c) (own c j) fullShare f)
      ∗ ((tok c 2 j ∗ tok (mp c) 3 j) ∗ tok c 4 j ∗ tok (zp c) 5 j ∗ tok c 6 j ∗ tok (yp c) 7 j)
      ∗ (pos c 1 j ∗ (pos c 2 j ∗ pos c 3 j) ∗ pos c 4 j ∗ pos c 6 j ∗ pos c 7 j) ∗ crd c 1 j ∗ crd c 3 j ∗ crd c 7 j)
  | 1 => iprop(xPts c (own c j) (X m ρ c)
      ∗ (∃ f, oPts (F := F) (zp c) (own c j) fullShare f) ∗ (∃ f, oPts (F := F) (yp c) (own c j) fullShare f)
      ∗ (tok c 4 j ∗ tok (zp c) 5 j ∗ tok c 6 j ∗ tok (yp c) 7 j)
      ∗ ((pos c 2 j ∗ pos c 3 j) ∗ pos c 4 j ∗ pos c 6 j ∗ pos c 7 j) ∗ crd c 2 j ∗ crd c 3 j ∗ crd c 7 j ∗ shut c 1 j)
  | 2 => iprop(xPts c (own c j) (X m ρ c) ∗ (∃ f, rPts (F := F) c j f) ∗ (pos c 4 j ∗ pos c 6 j ∗ pos c 7 j)
      ∗ (crd c 4 j ∗ crd c 6 j) ∗ crd c 7 j ∗ shut c 1 j ∗ shut c 2 j ∗ shut c 3 j)
  | 3 => iprop(oPts c (par c j) fullShare (T m ρ (yp c)) ∗ xPts c (own c j) (X m ρ c) ∗ (∃ f, rPts (F := F) c j f) ∗ (pos c 4 j ∗ pos c 6 j)
      ∗ (crd c 4 j ∗ crd c 6 j) ∗ shut c 1 j ∗ shut c 2 j ∗ shut c 3 j ∗ shut c 7 j)
  | _ => iprop(oPts c (own c j) fullShare (T m ρ c) ∗ oPts c (par c j) fullShare (T m ρ (yp c)) ∗ xPts c (own c j) (X m ρ c)
      ∗ (∃ f, rPts (F := F) c j f) ∗ shut c 1 j ∗ shut c 2 j ∗ shut c 3 j ∗ shut c 7 j ∗ shut c 4 j ∗ shut c 6 j)

/-- What it owes for the chunk: its pair sum to the other middle device, the total to its `z` and `y` neighbours. -/
def OwM (c : Dev nD) (j : Fin 8) : ℕ → CellTallies nD τ sig Unit
  | 0 => tallyAt (xCell (yp c) 7 j) () N + tallyAt (xCell (zp c) 5 j) () N + tallyAt (xCell (mp c) 3 j) () N
  | 1 => tallyAt (xCell (yp c) 7 j) () N + tallyAt (xCell (zp c) 5 j) () N
  | _ => 0

/-- A step is taken in the chunk's own order; a chunk is totalled once its pair sum and those of the chunks before it are
    sent; the last two steps once every chunk is totalled. -/
def okM (φ : Fin 8 → ℕ) (s : Fin 4 × Fin 8) : Bool :=
  decide (φ s.2 = s.1.val) && (decide (s.1.val = 1 → ∀ i, φ i = 0 → s.2 < i) && decide (2 ≤ s.1.val → ∀ i, 2 ≤ φ i))

/-- What a middle device still owes for chunk `i` after `p` sends lies above level `ℓ`. -/
theorem aboveM (c : Dev nD) (i : Fin 8) (p ℓ : ℕ) (h0 : 1 ≤ p ∨ ℓ < 3 + i.val) (h1 : 2 ≤ p ∨ ℓ < 20) : Above ℓ (OwM c i p) := by
  rcases p with _ | _ | p
  · exact above_add (above_add (above_tally _ _ _ (by show ℓ < 30; omega)) (above_tally _ _ _ (by show ℓ < 20; omega)))
      (above_tally _ _ _ (by show ℓ < 3 + i.val; omega))
  · exact above_add (above_tally _ _ _ (by show ℓ < 30; omega)) (above_tally _ _ _ (by show ℓ < 20; omega))
  · exact above_zero ℓ

section
variable (c : Dev nD) (h : k0_cond4 c = 1#1)

/-- The families that a middle device's steps use, its own and its neighbours'. -/
theorem act_mid (hc : isMid c) : (act 1 c = true ∧ act 2 c = true ∧ act 3 c = true ∧ act 4 c = true ∧ act 6 c = true ∧ act 7 c = true)
    ∧ act 3 (mp c) = true ∧ act 5 (zp c) = true ∧ act 7 (yp c) = true := by
  have h1 : ¬ isMid (zp c) := fun h' => (isMid_zp c).mp h' hc
  have h2 := (isMid_mp c).mpr hc
  simp [act, hc, h1, h2]

/-- What lands in the other middle device's landing buffer is this device's pair sum. -/
theorem pay_pair (j : Fin 8) (fd : Buf (Elt F) ((slabM j).view.loc (mp c : Thread nD τ))) :
    ((slabM j).view.loc (mp c : Thread nD τ) ↦[(slabM j).view.set]{fullShare}
        ((slabM j).view.write (Elt F) fd ((oB (own c j)).view.read (Elt F) (A m ρ c)) Finset.univ) : sProp 𝕄)
      ⊢ xferPay m ρ (mp c) 3 j := by
  have := land_r m ρ j (mp c) fd
  rw [mp_mp, own_mp] at this
  exact this

/-- The pair sum of a chunk. -/
theorem pair_step (j : Fin 8) (hc : isMid c) (R : CellTallies nD τ sig Unit) (hR : Above 2 R) (Q : PUnit → sProp 𝕄) :
    iprop(env m ρ K ∗ StM m ρ c j 0 ∗ ∃ W, owes (c : Thread nD τ) (OwM c j 0 + R) W)
      ⊢ iprop(((StM m ρ c j 1 ∗ ∃ W, owes (c : Thread nD τ) (OwM c j 1 + R) W) -∗ Q ⟨⟩) -∗ WP c (pairM c h j) Q) := by
  obtain ⟨⟨a1, a2, a3, a4, a6, a7⟩, a3m, a5z, a7y⟩ := act_mid c hc
  unfold pairM
  simp only [Prog.lift, Prog.bind_op, Prog.bind_ret, StM]
  iintro ⟨#He, ⟨Hx, ⟨%fr, Hr⟩, Hz, Hy, ⟨⟨Ht2, Ht3⟩, Ht⟩, ⟨Hp1, Hp⟩, Hc1, Hc3, Hc7⟩, HO⟩ Hk
  iapply (wp_take m ρ K c 1 j a1 (at8_2 j) (by exact credit_o 0) (above_add (aboveM c j 0 2 (by omega) (by omega)) hR)) $$ [Hc1 HO Hp1]
  · isplitr; · iexact He
    isplitl [Hc1]; · iexact Hc1
    isplitl [HO] <;> iassumption
  iintro ⟨HO, Hz1, Hpay⟩
  ihave Ho := (show xferPay m ρ c 1 j ⊢ oPts c (own c j) fullShare (X m ρ (zp c)) from BI.Entails.refl _) $$ Hpay
  iapply (wp_load_o c (own c j) fullShare (X m ρ (zp c)) (off4_at c j)) $$ Ho; iintro Ho
  iapply (wp_load_x c (own c j) (X m ρ c) (off4_at c j)) $$ Hx; iintro Hx
  iapply (wp_load_o c (own c j) fullShare (X m ρ (zp c)) (off4_at c j)) $$ Ho; iintro Ho
  iapply (wp_store_o c (own c j) (X m ρ (zp c)) (A m ρ c) (pair_read m ρ c (own c j)) (off4_at c j)) $$ Ho; iintro Ho
  iapply (wp_put m ρ K c (d := mp c) (Fin.ext (dev22_at c hc)) 2 3 j a2 a3m (at8_3 j) (at8_4 j) (slice_o (off3_at c j)) rfl (credit_r j)
    (q := fullShare) (fs := A m ρ c) (fd := fr) (BI.Entails.refl _) (pay_pair m ρ c j fr)
    (OwM c j 1 + R) (by simp only [OwM]; exact add_right_comm _ _ _)) $$ [Ho Hr HO Ht2 Ht3]
  · isplitr; · iexact He
    isplitl [Ho]; · iexact Ho
    isplitl [Hr]; · iexact Hr
    isplitl [HO]; · iexact HO
    isplitl [Ht2] <;> iassumption
  iintro ⟨Hc2, HO⟩
  unfold WP; rw [wp_ret]; imodintro
  iapply Hk
  isplitr [HO]
  · isplitl [Hx]; · iexact Hx
    isplitl [Hz]; · iexact Hz
    isplitl [Hy]; · iexact Hy
    isplitl [Ht]; · iexact Ht
    isplitl [Hp]; · iexact Hp
    isplitl [Hc2]; · iexact Hc2
    isplitl [Hc3]; · iexact Hc3
    isplitl [Hc7] <;> iassumption
  · iexact HO

/-- The total of a chunk. -/
theorem total_step (j : Fin 8) (hc : isMid c) (R : CellTallies nD τ sig Unit) (hR : Above (3 + j.val) R) (hR0 : Above 0 R) (Q : PUnit → sProp 𝕄) :
    iprop(env m ρ K ∗ StM m ρ c j 1 ∗ ∃ W, owes (c : Thread nD τ) (OwM c j 1 + R) W)
      ⊢ iprop(((StM m ρ c j 2 ∗ ∃ W, owes (c : Thread nD τ) (OwM c j 2 + R) W) -∗ Q ⟨⟩) -∗ WP c (totalM c h j) Q) := by
  obtain ⟨⟨a1, a2, a3, a4, a6, a7⟩, a3m, a5z, a7y⟩ := act_mid c hc
  unfold totalM
  simp only [Prog.lift, Prog.bind_op, Prog.bind_ret, StM]
  iintro ⟨#He, ⟨Hx, ⟨%fz, Hz⟩, ⟨%fy, Hy⟩, ⟨Ht4, Ht5, Ht6, Ht7⟩, ⟨⟨Hp2, Hp3⟩, Hp⟩, Hc2, Hc3, Hc7, Hz1⟩, HO⟩ Hk
  iapply (wp_take m ρ K c 2 j a2 (at8_3 j) (by exact credit_o 0) (above_add (aboveM c j 1 0 (by omega) (by omega)) hR0)) $$ [Hc2 HO Hp2]
  · isplitr; · iexact He
    isplitl [Hc2]; · iexact Hc2
    isplitl [HO] <;> iassumption
  iintro ⟨HO, Hz2, Hpay⟩
  ihave Ho := (show xferPay m ρ c 2 j ⊢ oPts c (own c j) fullShare (A m ρ c) from BI.Entails.refl _) $$ Hpay
  iapply (wp_take m ρ K c 3 j a3 (at8_4 j) (by exact credit_r j) (above_add (aboveM c j 1 (3 + j.val) (by omega) (by omega)) hR)) $$ [Hc3 HO Hp3]
  · isplitr; · iexact He
    isplitl [Hc3]; · iexact Hc3
    isplitl [HO] <;> iassumption
  iintro ⟨HO, Hz3, Hpay⟩
  ihave Hl := (show xferPay m ρ c 3 j ⊢ landed m ρ c j from BI.Entails.refl _) $$ Hpay
  unfold landed
  icases Hl with ⟨%fl, %hfl, Hr⟩
  iapply (wp_load_o c (own c j) fullShare (A m ρ c) (off4_at c j)) $$ Ho; iintro Ho
  iapply (wp_load_r c j fl) $$ Hr; iintro Hr
  iapply (wp_load_o c (own c j) fullShare (A m ρ c) (off4_at c j)) $$ Ho; iintro Ho
  iapply (wp_store_o c (own c j) (A m ρ c) (T m ρ c) ((total_read m ρ c j (own c j) fl hfl).trans (by rw [T_mid m ρ c hc])) (off4_at c j)) $$ Ho; iintro Ho
  ihave Hb := (oPts_halves c (own c j) (T m ρ c)).1 $$ Ho
  icases Hb with ⟨HoL, HoR⟩
  iapply (wp_put m ρ K c (d := zp c) (Fin.ext (dev24_at c hc)) 4 5 j a4 a5z (at8_5 j) (at8_6 j) (slice_o (off3_at c j)) (slice_o (off3_at c j)) (credit_o _)
    (q := fullShare.left) (fs := T m ρ c) (fd := fz) (BI.Entails.refl _) (by rw [pay_back, land_o])
    (tallyAt (xCell (yp c) 7 j) () N + R) (show OwM c j 1 + R = _ from by simp only [OwM]; exact add_right_comm _ _ _)) $$ [HoL Hz HO Ht4 Ht5]
  · isplitr; · iexact He
    isplitl [HoL]; · iexact HoL
    isplitl [Hz]; · iexact Hz
    isplitl [HO]; · iexact HO
    isplitl [Ht4] <;> iassumption
  iintro ⟨Hc4, HO⟩
  iapply (wp_put m ρ K c (d := yp c) (Fin.ext (dev25_at c hc)) 6 7 j a6 a7y (at8_7 j) (at8_8 j) (slice_o (off3_at c j)) (slice_o (off3_at c j)) (credit_o _)
    (q := fullShare.right) (fs := T m ρ c) (fd := fy) (BI.Entails.refl _) (by rw [pay_y, land_o])
    (OwM c j 2 + R) (show tallyAt (xCell (yp c) 7 j) () N + R = 0 + R + _ from by rw [zero_add, add_comm])) $$ [HoR Hy HO Ht6 Ht7]
  · isplitr; · iexact He
    isplitl [HoR]; · iexact HoR
    isplitl [Hy]; · iexact Hy
    isplitl [HO]; · iexact HO
    isplitl [Ht6] <;> iassumption
  iintro ⟨Hc6, HO⟩
  unfold WP; rw [wp_ret]; imodintro
  iapply Hk
  isplitr [HO]
  · isplitl [Hx]; · iexact Hx
    isplitl [Hr]; · iexists fl; iexact Hr
    isplitl [Hp]; · iexact Hp
    isplitl [Hc4 Hc6]; · isplitl [Hc4] <;> iassumption
    isplitl [Hc7]; · iexact Hc7
    isplitl [Hz1]; · iexact Hz1
    isplitl [Hz2] <;> iassumption
  · iexact HO

/-- Each step of a middle device, on any chunk, from its state to the next. -/
theorem mid_step (φ : Fin 8 → ℕ) (s : Fin 4 × Fin 8) (hok : okM φ s = true) (Q : PUnit → sProp 𝕄) :
    iprop(Inv m ρ K c (StM m ρ c) (OwM c) φ ∗ (Inv m ρ K c (StM m ρ c) (OwM c) (next φ s) -∗ Q ⟨⟩)) ⊢ WP c (stepM c h s) Q := by
  have hc : isMid c := (cond4_iff c).mp h
  obtain ⟨⟨a1, a2, a3, a4, a6, a7⟩, a3m, a5z, a7y⟩ := act_mid c hc
  rw [okM, Bool.and_eq_true, Bool.and_eq_true, decide_eq_true_iff, decide_eq_true_iff, decide_eq_true_iff] at hok
  obtain ⟨hφ, hok1, hok2⟩ := hok
  obtain ⟨p, j⟩ := s
  refine step_lift m ρ K c _ _ φ (p, j) _ hφ Q ?_
  intro R hR
  have low (ℓ : ℕ) (hℓ : ℓ < 3) : Above ℓ R := by
    rw [hR]; exact above_sum _ _ fun i _ => aboveM c i _ ℓ (by omega) (by omega)
  have done (ℓ : ℕ) (h2 : 2 ≤ p.val) : Above ℓ R := by
    rw [hR]
    refine above_sum _ _ fun i _ => ?_
    have := hok2 h2 i
    exact aboveM c i _ ℓ (by omega) (by omega)
  fin_cases p
  · exact pair_step m ρ K c h j hc R (low 2 (by omega)) Q
  · refine total_step m ρ K c h j hc R ?_ (low 0 (by omega)) Q
    rw [hR]
    refine above_sum _ _ fun i _ => aboveM c i _ _ ?_ (by omega)
    rcases Nat.eq_zero_or_pos (φ i) with h0 | h0
    · have : j < i := hok1 rfl i h0
      right; omega
    · left; exact h0
  · -- the other half come
    show iprop(env m ρ K ∗ StM m ρ c j 2 ∗ ∃ W, owes (c : Thread nD τ) (OwM c j 2 + R) W)
      ⊢ iprop(((StM m ρ c j 3 ∗ ∃ W, owes (c : Thread nD τ) (OwM c j 3 + R) W) -∗ Q ⟨⟩) -∗ WP c (takeM c h j) Q)
    unfold takeM
    simp only [Prog.lift, StM]
    iintro ⟨#He, ⟨Hx, Hr, ⟨Hp4, Hp6, Hp7⟩, Hc, Hc7, Hz1, Hz2, Hz3⟩, HO⟩ Hk
    iapply (wp_take m ρ K c 7 j a7 (at8_8 j) (by exact credit_o 0)
      (above_add (aboveM c j 2 30 (by omega) (by omega)) (done 30 (by decide)))) $$ [Hc7 HO Hp7]
    · isplitr; · iexact He
      isplitl [Hc7]; · iexact Hc7
      isplitl [HO] <;> iassumption
    iintro ⟨HO, Hz7, Hpay⟩
    ihave Hpar := (show xferPay m ρ c 7 j ⊢ oPts c (par c j) fullShare (T m ρ (yp c)) from BI.Entails.refl _) $$ Hpay
    unfold WP; rw [wp_ret]; imodintro
    iapply Hk
    isplitr [HO]
    · isplitl [Hpar]; · iexact Hpar
      isplitl [Hx]; · iexact Hx
      isplitl [Hr]; · iexact Hr
      isplitl [Hp4 Hp6]; · isplitl [Hp4] <;> iassumption
      isplitl [Hc]; · iexact Hc
      isplitl [Hz1]; · iexact Hz1
      isplitl [Hz2]; · iexact Hz2
      isplitl [Hz3] <;> iassumption
    · iexact HO
  · -- its result whole
    show iprop(env m ρ K ∗ StM m ρ c j 3 ∗ ∃ W, owes (c : Thread nD τ) (OwM c j 3 + R) W)
      ⊢ iprop(((StM m ρ c j 4 ∗ ∃ W, owes (c : Thread nD τ) (OwM c j 4 + R) W) -∗ Q ⟨⟩) -∗ WP c (doneM c h j) Q)
    unfold doneM
    simp only [Prog.lift, Prog.bind_op, Prog.bind_ret, StM]
    iintro ⟨#He, ⟨Hpar, Hx, Hr, ⟨Hp4, Hp6⟩, ⟨Hc4, Hc6⟩, Hz1, Hz2, Hz3, Hz7⟩, HO⟩ Hk
    iapply (wp_take m ρ K c 4 j a4 (at8_5 j) (by exact credit_o 0)
      (above_add (aboveM c j 3 0 (by omega) (by omega)) (done 0 (by decide)))) $$ [Hc4 HO Hp4]
    · isplitr; · iexact He
      isplitl [Hc4]; · iexact Hc4
      isplitl [HO] <;> iassumption
    iintro ⟨HO, Hz4, Hpay⟩
    ihave HoL := (show xferPay m ρ c 4 j ⊢ oPts c (own c j) fullShare.left (T m ρ c) from BI.Entails.refl _) $$ Hpay
    iapply (wp_take m ρ K c 6 j a6 (at8_7 j) (by exact credit_o 0)
      (above_add (aboveM c j 3 0 (by omega) (by omega)) (done 0 (by decide)))) $$ [Hc6 HO Hp6]
    · isplitr; · iexact He
      isplitl [Hc6]; · iexact Hc6
      isplitl [HO] <;> iassumption
    iintro ⟨HO, Hz6, Hpay⟩
    ihave HoR := (show xferPay m ρ c 6 j ⊢ oPts c (own c j) fullShare.right (T m ρ c) from BI.Entails.refl _) $$ Hpay
    unfold WP; rw [wp_ret]; imodintro
    iapply Hk
    isplitr [HO]
    · isplitl [HoL HoR]
      · iapply (oPts_halves c (own c j) (T m ρ c)).2
        isplitl [HoL]; · iexact HoL
        iexact HoR
      isplitl [Hpar]; · iexact Hpar
      isplitl [Hx]; · iexact Hx
      isplitl [Hr]; · iexact Hr
      isplitl [Hz1]; · iexact Hz1
      isplitl [Hz2]; · iexact Hz2
      isplitl [Hz3]; · iexact Hz3
      isplitl [Hz7]; · iexact Hz7
      isplitl [Hz4] <;> iassumption
    · iexact HO

/-- The steps of a middle device in the printed order take every chunk from its first state to its last, nothing owed then. -/
theorem mid_run (Q : PUnit → sProp 𝕄) :
    iprop(Inv m ρ K c (StM m ρ c) (OwM c) (fun _ => 0) ∗ (Inv m ρ K c (StM m ρ c) (OwM c) (fun _ => 4) -∗ Q ⟨⟩))
      ⊢ WP c (run (midOrder.map (stepM c h))) Q := by
  have e : midOrder.foldl next (fun _ => 0) = fun _ => 4 := by funext j; revert j; decide
  rw [← e]
  exact run_order c (stepM c h) okM _ (fun φ s hok Q => mid_step m ρ K c h φ s hok Q) midOrder _ (by decide) Q
end

end Cert.KernelIdeal.ZSum

end
-- ==== Proof.Body.lean ====
/-
# The body of a device

The staging buffers are cut into the bands of the two halves; the handshake hands the result's bands (and a middle device's
landing buffer) to the devices that write them; the steps run; the bands join again.
-/
module

public import proofs.«01_k».proof.Proof.EndSteps
public import proofs.«01_k».proof.Proof.MidSteps
public import Idealize.ShloMosaic.Lib.Ring

@[expose] public section

noncomputable section

namespace Cert.KernelIdeal.ZSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Cell → ℕ)

/-! ## Whole buffers and their bands -/

/-- The `x` staging buffer, the result's, and the landing buffer of device `c`, each held whole. -/
abbrev xW (c : Dev nD) (f : Buf (Elt F) ((c : Thread nD τ).loc cc0_stg0_0)) : sProp 𝕄 := ((c : Thread nD τ).loc cc0_stg0_0) ↦{fullShare} f
/-- The whole result staging buffer of device `c` at contents `f`. -/
abbrev oW (c : Dev nD) (f : Buf (Elt F) ((c : Thread nD τ).loc cc0_stg1_0)) : sProp 𝕄 := ((c : Thread nD τ).loc cc0_stg1_0) ↦{fullShare} f
/-- The whole landing buffer of device `c` at contents `f`. -/
abbrev rW (c : Dev nD) (f : Buf (Elt F) ((c : Thread nD τ).loc cc0_scratch0)) : sProp 𝕄 := ((c : Thread nD τ).loc cc0_scratch0) ↦{fullShare} f

set_option backward.proofsInPublic true in
/-- A half and a chunk of it number the sixteen bands. -/
def chunkEquiv : Fin 2 × Fin 8 ≃ Fin 16 where
  toFun p := chunk p.1 p.2
  invFun k := (⟨k.val / 8, by omega⟩, ⟨k.val % 8, by omega⟩)
  left_inv := by decide
  right_inv := by decide

/-- Of the two halves, the one that is not `y` is its reverse. -/
theorem erase_half (y : Fin 2) : Finset.univ.erase y = {y.rev} := by revert y; decide

/-- What is held of the sixteen bands is what is held of the device's own half and of the other. -/
theorem bands_halves (c : Dev nD) (Φ : Fin 16 → sProp 𝕄) :
    bigSep Finset.univ Φ = iprop((bigSep Finset.univ fun j => Φ (own c j)) ∗ bigSep Finset.univ fun j => Φ (par c j)) := by
  rw [bigSep_univ_equiv chunkEquiv, bigSep_univ_prod, bigSep_univ_at _ (half c), erase_half, bigSep_singleton]
  rfl

/-- A buffer held whole is held block by block, whatever disjoint blocks cover it. -/
theorem blocks {ℓ : Loc nD τ sig} {B : Type} [Fintype B] [DecidableEq B] (I : B → Finset (Idx ℓ)) (g : Idx ℓ → B) (h : ∀ b i, i ∈ I b ↔ g i = b) (f : Buf (Elt F) ℓ) :
    (ℓ ↦{fullShare} f : sProp 𝕄) = bigSep Finset.univ fun b => ℓ ↦[I b]{fullShare} f :=
  Ring.pointsTo_blocks I (fun b b' hb => Finset.disjoint_left.mpr fun i hi hi' => hb (((h b i).mp hi).symm.trans ((h b' i).mp hi')))
    (Finset.eq_univ_iff_forall.mpr fun i => Finset.mem_biUnion.mpr ⟨g i, Finset.mem_univ _, (h _ i).mpr rfl⟩) f
/-- and blocks at contents of their own are the buffer at some contents. -/
theorem blocks_join {ℓ : Loc nD τ sig} {B : Type} [Fintype B] [DecidableEq B] (I : B → Finset (Idx ℓ)) (g : Idx ℓ → B) (h : ∀ b i, i ∈ I b ↔ g i = b) (f : Buf (Elt F) ℓ) :
    (bigSep Finset.univ fun b => iprop(∃ f, ℓ ↦[I b]{fullShare} f) : sProp 𝕄) ⊢ iprop(∃ f, ℓ ↦{fullShare} f) :=
  Ring.pointsTo_blocks_join_exists I (fun b b' hb => Finset.disjoint_left.mpr fun i hi hi' => hb (((h b i).mp hi).symm.trans ((h b' i).mp hi')))
    (Finset.eq_univ_iff_forall.mpr fun i => Finset.mem_biUnion.mpr ⟨g i, Finset.mem_univ _, (h _ i).mpr rfl⟩) f

/-- The band a row lies in. -/
def bandOf (i : S2048x512.Idx) : Fin 16 := ⟨(i 0).val / 128, by have h : (i 0).val < 2048 := (i 0).isLt; omega⟩
/-- An index is in band `k` exactly when its band is `k`. -/
theorem mem_bandOf (k : Fin 16) (i : S2048x512.Idx) : i ∈ (band k).set ↔ bandOf i = k := by rw [mem_band, Fin.ext_iff]; rfl

/-- The `x` staging buffer is its sixteen chunks. -/
theorem x_bands (c : Dev nD) (f : Big F) : (xW c f : sProp 𝕄) = bigSep Finset.univ fun k : Fin 16 => xPts c k f :=
  blocks (ℓ := (c : Thread nD τ).loc cc0_stg0_0) (fun k : Fin 16 => (xB k).view.set) bandOf (fun k i => by rw [set_x]; exact mem_bandOf k i) f
/-- The result staging buffer is its sixteen chunks. -/
theorem o_bands (c : Dev nD) (f : Big F) : (oW c f : sProp 𝕄) = bigSep Finset.univ fun k : Fin 16 => oPts c k fullShare f :=
  blocks (ℓ := (c : Thread nD τ).loc cc0_stg1_0) (fun k : Fin 16 => (oB k).view.set) bandOf (fun k i => by rw [set_o]; exact mem_bandOf k i) f
/-- The landing buffer is its eight slabs. -/
theorem r_slabs (c : Dev nD) (f : FVec F S8x128x512 .f32) : (rW c f : sProp 𝕄) = bigSep Finset.univ fun j : Fin 8 => rPts c j f :=
  blocks (ℓ := (c : Thread nD τ).loc cc0_scratch0) (fun j : Fin 8 => (slabM j).view.set) (fun i : S8x128x512.Idx => i 0) (fun j i => by rw [set_r]; exact mem_slab) f
/-- Eight slabs, each at contents of its own, make a landing buffer. -/
theorem r_join (c : Dev nD) (f₀ : FVec F S8x128x512 .f32) :
    (bigSep Finset.univ fun j : Fin 8 => iprop(∃ f, rPts (F := F) c j f) : sProp 𝕄) ⊢ iprop(∃ f, rW c f) :=
  blocks_join (ℓ := (c : Thread nD τ).loc cc0_scratch0) (fun j : Fin 8 => (slabM j).view.set) (fun i : S8x128x512.Idx => i 0) (fun j i => by rw [set_r]; exact mem_slab) f₀

/-- A chunk of the result buffer at known contents is one at some contents. -/
theorem o_some (c : Dev nD) (k : Fin 16) (f : Big F) : (oPts c k fullShare f : sProp 𝕄) ⊢ iprop(∃ f, oPts (F := F) c k fullShare f) := by
  iintro H; iexists f; iexact H
/-- A slab at known contents is one at some contents. -/
theorem r_some (c : Dev nD) (j : Fin 8) (f : FVec F S8x128x512 .f32) : (rPts c j f : sProp 𝕄) ⊢ iprop(∃ f, rPts (F := F) c j f) := by
  iintro H; iexists f; iexact H

/-- The result's buffer, cut: some contents on each band of each half. -/
theorem o_cut (c : Dev nD) (f : Big F) :
    (oW c f : sProp 𝕄) ⊢ iprop((bigSep Finset.univ fun j => iprop(∃ f, oPts (F := F) c (own c j) fullShare f))
      ∗ bigSep Finset.univ fun j => iprop(∃ f, oPts (F := F) c (par c j) fullShare f)) := by
  rw [o_bands, bands_halves c]
  exact BIClass.sep_mono (bigSep_mono fun j _ => o_some c _ f) (bigSep_mono fun j _ => o_some c _ f)
/-- The landing buffer, cut. -/
theorem r_cut (c : Dev nD) (f : FVec F S8x128x512 .f32) :
    (rW c f : sProp 𝕄) ⊢ bigSep Finset.univ fun j => iprop(∃ f, rPts (F := F) c j f) := by
  rw [r_slabs]
  exact bigSep_mono fun j _ => r_some c j f

/-- The totals of the two halves, each on its bands, are the result. -/
theorem out_join (c : Dev nD) :
    iprop((bigSep Finset.univ fun j => oPts c (own c j) fullShare (T m ρ c)) ∗ bigSep Finset.univ fun j => oPts c (par c j) fullShare (T m ρ (yp c)))
      ⊢ (oW c (outAt m ρ c) : sProp 𝕄) := by
  rw [o_bands, bands_halves c]
  refine BIClass.sep_mono (bigSep_mono fun j _ => Entails.of_eq (pointsTo_congr fun i hi => ?_)) (bigSep_mono fun j _ => Entails.of_eq (pointsTo_congr fun i hi => ?_))
  · have h := mem_band.mp (by rw [set_o] at hi; exact hi)
    have h' : ((i : S2048x512.Idx) 0).val / 1024 = (half c).val := by
      have : (own c j).val = 8 * (half c).val + j.val := rfl
      omega
    exact (if_pos h').symm
  · have h := mem_band.mp (by rw [set_o] at hi; exact hi)
    have h' : ¬ ((i : S2048x512.Idx) 0).val / 1024 = (half c).val := by
      have : (par c j).val = 8 * (half c).rev.val + j.val := rfl
      have h2 : (half c).rev.val = 2 - ((half c).val + 1) := Fin.val_rev _
      omega
    exact (if_neg h').symm

/-! ## What a device starts from and ends with -/

/-- Its positions on the transfer cells of chunk `j`, those cells closed, and the tokens of the transfer duties it pays. -/
def posAll (c : Dev nD) (j : Fin 8) : sProp 𝕄 :=
  iprop(pos c 0 j ∗ pos c 1 j ∗ pos c 2 j ∗ pos c 3 j ∗ pos c 4 j ∗ pos c 5 j ∗ pos c 6 j ∗ pos c 7 j)
/-- Its transfer cells of chunk `j`, closed at zero. -/
def shutAll (c : Dev nD) (j : Fin 8) : sProp 𝕄 :=
  iprop(shut c 0 j ∗ shut c 1 j ∗ shut c 2 j ∗ shut c 3 j ∗ shut c 4 j ∗ shut c 5 j ∗ shut c 6 j ∗ shut c 7 j)
/-- The tokens of the transfer duties of chunk `j` that the device pays. -/
def tokAll (c : Dev nD) (j : Fin 8) : sProp 𝕄 :=
  iprop(tok c 0 j ∗ tok (zp c) 1 j ∗ tok c 2 j ∗ tok (mp c) 3 j ∗ tok c 4 j ∗ tok (zp c) 5 j ∗ tok c 6 j ∗ tok (yp c) 7 j)
/-- The credits of the receives it will wait for. -/
def crdAll (c : Dev nD) (j : Fin 8) : sProp 𝕄 := if isMid c then iprop(crd c 1 j ∗ crd c 3 j ∗ crd c 7 j) else iprop(crd c 5 j ∗ crd c 7 j)
/-- The tokens of the three signals. -/
def barToks (c : Dev nD) : sProp 𝕄 := iprop(dutyTok ER (barCell (zp c)) 0 0 ∗ dutyTok ER (barCell (mp c)) 0 1 ∗ dutyTok ER (barCell (yp c)) 0 2)
/-- How many units its barrier cell gets. -/
def nBar (c : Dev nD) : ℕ := if isMid c then 3 else 2

/-- Its part of the exchange's state. -/
def ghost (c : Dev nD) : sProp 𝕄 :=
  iprop(atPos ER (barCell c) 0 ∅ 0 ∗ (bigSep Finset.univ fun j => posAll c j) ∗ barToks c ∗ (bigSep Finset.univ fun j => tokAll c j))
/-- The credits of a device: its barrier units and its receives. -/
def credits (c : Dev nD) : sProp 𝕄 := iprop(cred (tallyAt (barCell c) () (nBar c)) ∗ (bigSep Finset.univ fun j => crdAll c j))

/-- What a device owes for chunk `j` at the start, and all it owes at launch. -/
def Ow (c : Dev nD) (j : Fin 8) : CellTallies nD τ sig Unit := if isMid c then OwM c j 0 else OwE c j 0
/-- All that a device owes at launch: its transfers and its signals. -/
def O₀ (c : Dev nD) : CellTallies nD τ sig Unit :=
  (∑ j, Ow c j) + tallyAt (barCell (yp c)) () 1 + (if isMid c then tallyAt (barCell (mp c)) () 1 else 0) + tallyAt (barCell (zp c)) () 1

/-- A persistent fact may be used for every member of a family. -/
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- An unused family closes at once. -/
theorem shut_family (c : Dev nD) (f : Fin 8) (hact : act f c = false) :
    iprop(env m ρ K ∗ bigSep Finset.univ fun j => pos (F := F) c f j) ⊢ |={Set.univ}=> bigSep Finset.univ fun j => shut (F := F) c f j :=
  (bigSep_with_persistent fun j _ => shut_unused m ρ K c f j hact).trans (bigSep_fupd _ _)

/-! ## The handshake -/

/-- What its signals hand over is its own result buffer's halves and its landing buffer. -/
theorem pay_zp (c : Dev nD) : (bigSep Finset.univ fun j => iprop(∃ f, oPts (F := F) c (own c j) fullShare f)) ⊢ barPay (zp c) 0 := by
  dsimp only [barPay]; rw [zp_zp]; exact Entails.of_eq (bigSep_congr fun j _ => by rw [own_zp])
/-- To the other middle device: the landing buffer. -/
theorem pay_mp (c : Dev nD) : (bigSep Finset.univ fun j => iprop(∃ f, rPts (F := F) c j f)) ⊢ barPay (mp c) 1 := by
  dsimp only [barPay]; rw [mp_mp]
/-- To the `y` neighbour: the chunks of the half that it sums. -/
theorem pay_yp (c : Dev nD) : (bigSep Finset.univ fun j => iprop(∃ f, oPts (F := F) c (par c j) fullShare f)) ⊢ barPay (yp c) 2 := by
  dsimp only [barPay]; rw [yp_yp]; exact Entails.of_eq (bigSep_congr fun j _ => by rw [own_yp])

/-- The transfers that a device owes all land above the barrier. -/
theorem above_Ow (c : Dev nD) : Above 1 (∑ j, Ow c j) := above_sum _ _ fun j _ => by
  unfold Ow
  split
  · exact aboveM c j 0 1 (by omega) (by omega)
  · exact aboveE c j 0 1 (by omega) (by omega)

/-- An end device hears from its `z` neighbour and its `y` neighbour. -/
theorem barPay_end (c : Dev nD) (hc : ¬ isMid c) : bigSep (dutiesOf c none) (barPay (F := F) c) = iprop(barPay c 0 ∗ barPay c 2) := by
  rw [dutiesOf_bar, if_neg hc]; exact bigSep_eq_bigSepL_of_eq [0, 2] (by decide) (by decide) _
/-- A middle device hears from the other middle device too. -/
theorem barPay_mid (c : Dev nD) (hc : isMid c) : bigSep (dutiesOf c none) (barPay (F := F) c) = iprop(barPay c 0 ∗ barPay c 1 ∗ barPay c 2) := by
  rw [dutiesOf_bar, if_pos hc]; exact bigSep_eq_bigSepL_of_eq [0, 1, 2] (by decide) (by decide) _

/-- An end device's handshake. -/
theorem bar_end (c : Dev nD) (h : k0_cond1 c = 1#1) (Q : PUnit → sProp 𝕄) :
    iprop(env m ρ K ∗ atPos ER (barCell c) 0 ∅ 0 ∗ barToks c ∗ cred (tallyAt (barCell c) () (nBar c)) ∗ (∃ f, oW c f) ∗ ∃ W, owes (c : Thread nD τ) (O₀ c) W)
      ⊢ iprop((((∃ W, owes (c : Thread nD τ) (∑ j, Ow c j) W) ∗ semVal (barCell c) 0 ∗ barPay c 0 ∗ barPay c 2) -∗ Q ⟨⟩) -∗ WP c (barE c h) Q) := by
  have hc : ¬ isMid c := (cond1_iff c).mp h
  have hz : isMid (zp c) := (isMid_zp c).mpr hc
  have hy : ¬ isMid (yp c) := fun h' => hc ((isMid_yp c).mp h')
  have e : barE (F := F) c h = .op (.semSignal ((⟨k0_dev1 c, k0_dev1_lt c h⟩ : Dev nD) : Thread nD τ) barS 1) fun _ =>
      .op (.semSignal ((⟨k0_dev2 c, k0_dev2_lt c h⟩ : Dev nD) : Thread nD τ) barS 1) fun _ => .op (.semWait barS 2) fun x => .ret x := rfl
  rw [e, show nBar c = 2 from if_neg hc]
  unfold barToks
  iintro ⟨#He, Hat, ⟨Ht0, -, Ht2⟩, Hc, ⟨%f, Ho⟩, HO⟩ Hk
  ihave Hcut := (o_cut c f) $$ Ho
  icases Hcut with ⟨Hown, Hpar⟩
  ihave P0 := (pay_zp (F := F) c) $$ Hown
  ihave P2 := (pay_yp (F := F) c) $$ Hpar
  iapply (wp_ring m ρ K c (d := zp c) (Fin.ext (dev1_at c hc)) 0 (by rw [dutiesOf_bar, if_pos hz]; decide)
    ((∑ j, Ow c j) + tallyAt (barCell (yp c)) () 1) (show O₀ c = _ from by unfold O₀; rw [if_neg hc, add_zero])) $$ [HO Ht0 P0]
  · isplitr; · iexact He
    isplitl [HO]; · iexact HO
    isplitl [Ht0] <;> iassumption
  iintro HO
  iapply (wp_ring m ρ K c (d := yp c) (Fin.ext (dev2_at c hc)) 2 (by rw [dutiesOf_bar, if_neg hy]; decide)
    (∑ j, Ow c j) rfl) $$ [HO Ht2 P2]
  · isplitr; · iexact He
    isplitl [HO]; · iexact HO
    isplitl [Ht2] <;> iassumption
  iintro HO
  iapply (wp_barrier m ρ K c (if_neg hc).symm (above_Ow c)) $$ [Hc HO Hat]
  · isplitr; · iexact He
    isplitl [Hc]; · iexact Hc
    isplitl [HO] <;> iassumption
  iintro ⟨HO, Hz, Hp⟩
  ihave Hp' := (Entails.of_eq (barPay_end (F := F) c hc)) $$ Hp
  unfold WP; rw [wp_ret]; imodintro
  iapply Hk
  isplitl [HO]; · iexact HO
  isplitl [Hz] <;> iassumption

/-- A middle device's handshake. -/
theorem bar_mid (c : Dev nD) (h : k0_cond2 c = 1#1) (Q : PUnit → sProp 𝕄) :
    iprop(env m ρ K ∗ atPos ER (barCell c) 0 ∅ 0 ∗ barToks c ∗ cred (tallyAt (barCell c) () (nBar c)) ∗ (∃ f, oW c f) ∗ (∃ f, rW c f) ∗ ∃ W, owes (c : Thread nD τ) (O₀ c) W)
      ⊢ iprop((((∃ W, owes (c : Thread nD τ) (∑ j, Ow c j) W) ∗ semVal (barCell c) 0 ∗ barPay c 0 ∗ barPay c 1 ∗ barPay c 2) -∗ Q ⟨⟩) -∗ WP c (barM c h) Q) := by
  have hc : isMid c := (cond2_iff c).mp h
  have hz : ¬ isMid (zp c) := fun h' => (isMid_zp c).mp h' hc
  have hm : isMid (mp c) := (isMid_mp c).mpr hc
  have hy : isMid (yp c) := (isMid_yp c).mpr hc
  have e : barM (F := F) c h = .op (.semSignal ((⟨k0_dev3 c, k0_dev3_lt c h⟩ : Dev nD) : Thread nD τ) barS 1) fun _ =>
      .op (.semSignal ((⟨k0_dev4 c, k0_dev4_lt c h⟩ : Dev nD) : Thread nD τ) barS 1) fun _ =>
      .op (.semSignal ((⟨k0_dev5 c, k0_dev5_lt c h⟩ : Dev nD) : Thread nD τ) barS 1) fun _ => .op (.semWait barS 3) fun x => .ret x := rfl
  rw [e, show nBar c = 3 from if_pos hc]
  unfold barToks
  iintro ⟨#He, Hat, ⟨Ht0, Ht1, Ht2⟩, Hc, ⟨%f, Ho⟩, ⟨%g, Hr⟩, HO⟩ Hk
  ihave Hcut := (o_cut c f) $$ Ho
  icases Hcut with ⟨Hown, Hpar⟩
  ihave P0 := (pay_zp (F := F) c) $$ Hown
  ihave P2 := (pay_yp (F := F) c) $$ Hpar
  ihave P1 := ((r_cut c g).trans (pay_mp (F := F) c)) $$ Hr
  iapply (wp_ring m ρ K c (d := zp c) (Fin.ext (dev3_at c hc)) 0 (by rw [dutiesOf_bar, if_neg hz]; decide)
    ((∑ j, Ow c j) + tallyAt (barCell (yp c)) () 1 + tallyAt (barCell (mp c)) () 1) (show O₀ c = _ from by unfold O₀; rw [if_pos hc])) $$ [HO Ht0 P0]
  · isplitr; · iexact He
    isplitl [HO]; · iexact HO
    isplitl [Ht0] <;> iassumption
  iintro HO
  iapply (wp_ring m ρ K c (d := mp c) (Fin.ext (dev4_at c hc)) 1 (by rw [dutiesOf_bar, if_pos hm]; decide)
    ((∑ j, Ow c j) + tallyAt (barCell (yp c)) () 1) rfl) $$ [HO Ht1 P1]
  · isplitr; · iexact He
    isplitl [HO]; · iexact HO
    isplitl [Ht1] <;> iassumption
  iintro HO
  iapply (wp_ring m ρ K c (d := yp c) (Fin.ext (dev5_at c hc)) 2 (by rw [dutiesOf_bar, if_pos hy]; decide)
    (∑ j, Ow c j) rfl) $$ [HO Ht2 P2]
  · isplitr; · iexact He
    isplitl [HO]; · iexact HO
    isplitl [Ht2] <;> iassumption
  iintro HO
  iapply (wp_barrier m ρ K c (if_pos hc).symm (above_Ow c)) $$ [Hc HO Hat]
  · isplitr; · iexact He
    isplitl [Hc]; · iexact Hc
    isplitl [HO] <;> iassumption
  iintro ⟨HO, Hz, Hp⟩
  ihave Hp' := (Entails.of_eq (barPay_mid (F := F) c hc)) $$ Hp
  unfold WP; rw [wp_ret]; imodintro
  iapply Hk
  isplitl [HO]; · iexact HO
  isplitl [Hz] <;> iassumption

end Cert.KernelIdeal.ZSum

end
-- ==== Proof.Whole.lean ====
/-
# The body, from what the launch deals a device to its result
-/
module

public import proofs.«01_k».proof.Proof.Body

@[expose] public section

noncomputable section

namespace Cert.KernelIdeal.ZSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Cell → ℕ)

/-! ## From the handshake to the first states, and from the last states to the result -/

/-- What a device ends with: its `x`, the result, its landing buffer at some contents, every cell closed, nothing owed. -/
def Post (c : Dev nD) : sProp 𝕄 :=
  iprop(xW c (X m ρ c) ∗ oW c (outAt m ρ c) ∗ (∃ f, rW (F := F) c f) ∗ semVal (barCell c) 0 ∗ (bigSep Finset.univ fun j => shutAll c j)
    ∗ ∃ W, owes (c : Thread nD τ) (0 : CellTallies nD τ sig Unit) W)

/-- The chunks of an end device in their first state; the positions on the families it does not use stay over. -/
theorem start_end (c : Dev nD) (hc : ¬ isMid c) :
    iprop((bigSep Finset.univ fun j => xPts c (own c j) (X m ρ c)) ∗ barPay c 0 ∗ barPay c 2 ∗ (bigSep Finset.univ fun j => posAll c j)
        ∗ (bigSep Finset.univ fun j => tokAll c j) ∗ bigSep Finset.univ fun j => crdAll c j)
      ⊢ iprop((bigSep Finset.univ fun j => StE m ρ c j 0) ∗ (bigSep Finset.univ fun j => pos (F := F) c 1 j) ∗ (bigSep Finset.univ fun j => pos (F := F) c 2 j)
        ∗ (bigSep Finset.univ fun j => pos (F := F) c 3 j) ∗ bigSep Finset.univ fun j => pos (F := F) c 4 j) := by
  have e : (fun j => crdAll (F := F) c j) = fun j => iprop(crd c 5 j ∗ crd c 7 j) := funext fun j => if_neg hc
  rw [e]
  simp only [StE, posAll, tokAll, barPay, bigSep_sep']
  iintro ⟨Hx, Hz, Hy, ⟨P0, P1, P2, P3, P4, P5, P6, P7⟩, ⟨T0, T1, -, -, -, -, T6, T7⟩, C5, C7⟩
  isplitl [Hx Hz Hy P0 P5 P6 P7 T0 T1 T6 T7 C5 C7]
  · isplitl [Hx]; · iexact Hx
    isplitl [Hz]; · iexact Hz
    isplitl [Hy]; · iexact Hy
    isplitl [T0 T1 T6 T7]
    · isplitl [T0]; · iexact T0
      isplitl [T1]; · iexact T1
      isplitl [T6] <;> iassumption
    isplitl [P0 P5 P6 P7]
    · isplitl [P0]; · iexact P0
      isplitl [P5]; · iexact P5
      isplitl [P6] <;> iassumption
    isplitl [C5] <;> iassumption
  isplitl [P1]; · iexact P1
  isplitl [P2]; · iexact P2
  isplitl [P3] <;> iassumption

/-- The chunks of a middle device in their first state, likewise. -/
theorem start_mid (c : Dev nD) (hc : isMid c) :
    iprop((bigSep Finset.univ fun j => xPts c (own c j) (X m ρ c)) ∗ barPay c 0 ∗ barPay c 1 ∗ barPay c 2 ∗ (bigSep Finset.univ fun j => posAll c j)
        ∗ (bigSep Finset.univ fun j => tokAll c j) ∗ bigSep Finset.univ fun j => crdAll c j)
      ⊢ iprop((bigSep Finset.univ fun j => StM m ρ c j 0) ∗ (bigSep Finset.univ fun j => pos (F := F) c 0 j) ∗ bigSep Finset.univ fun j => pos (F := F) c 5 j) := by
  have e : (fun j => crdAll (F := F) c j) = fun j => iprop(crd c 1 j ∗ crd c 3 j ∗ crd c 7 j) := funext fun j => if_pos hc
  rw [e]
  simp only [StM, posAll, tokAll, barPay, bigSep_sep']
  iintro ⟨Hx, Hz, Hm, Hy, ⟨P0, P1, P2, P3, P4, P5, P6, P7⟩, ⟨-, -, T2, T3, T4, T5, T6, T7⟩, C1, C3, C7⟩
  isplitr [P0 P5]
  · isplitl [Hx]; · iexact Hx
    isplitl [Hm]; · iexact Hm
    isplitl [Hz]; · iexact Hz
    isplitl [Hy]; · iexact Hy
    isplitl [T2 T3 T4 T5 T6 T7]
    · isplitl [T2 T3]; · isplitl [T2] <;> iassumption
      isplitl [T4]; · iexact T4
      isplitl [T5]; · iexact T5
      isplitl [T6] <;> iassumption
    isplitl [P1 P2 P3 P4 P6 P7]
    · isplitl [P1]; · iexact P1
      isplitl [P2 P3]; · isplitl [P2] <;> iassumption
      isplitl [P4]; · iexact P4
      isplitl [P6] <;> iassumption
    isplitl [C1]; · iexact C1
    isplitl [C3] <;> iassumption
  isplitl [P0] <;> iassumption

/-- The last states of an end device's chunks, with the unused families closed and the rest of `x`, are its result. -/
theorem finish_end (c : Dev nD) :
    iprop((bigSep Finset.univ fun j => StE m ρ c j 5) ∗ (bigSep Finset.univ fun j => xPts c (par c j) (X m ρ c))
        ∗ (bigSep Finset.univ fun j => shut (F := F) c 1 j) ∗ (bigSep Finset.univ fun j => shut (F := F) c 2 j)
        ∗ (bigSep Finset.univ fun j => shut (F := F) c 3 j) ∗ bigSep Finset.univ fun j => shut (F := F) c 4 j)
      ⊢ iprop(xW c (X m ρ c) ∗ oW c (outAt m ρ c) ∗ bigSep Finset.univ fun j => shutAll (F := F) c j) := by
  rw [x_bands, bands_halves c]
  simp only [StE, shutAll, bigSep_sep']
  iintro ⟨⟨Ho, Hp, Hx, S5, S7, S0, S6⟩, Hxp, S1, S2, S3, S4⟩
  isplitl [Hx Hxp]; · isplitl [Hx] <;> iassumption
  isplitl [Ho Hp]
  · iapply (out_join m ρ c)
    isplitl [Ho] <;> iassumption
  isplitl [S0]; · iexact S0
  isplitl [S1]; · iexact S1
  isplitl [S2]; · iexact S2
  isplitl [S3]; · iexact S3
  isplitl [S4]; · iexact S4
  isplitl [S5]; · iexact S5
  isplitl [S6] <;> iassumption

/-- The last states of a middle device's chunks, likewise; its landing buffer is whole again. -/
theorem finish_mid (c : Dev nD) :
    iprop((bigSep Finset.univ fun j => StM m ρ c j 4) ∗ (bigSep Finset.univ fun j => xPts c (par c j) (X m ρ c))
        ∗ (bigSep Finset.univ fun j => shut (F := F) c 0 j) ∗ bigSep Finset.univ fun j => shut (F := F) c 5 j)
      ⊢ iprop(xW c (X m ρ c) ∗ oW c (outAt m ρ c) ∗ (∃ f, rW (F := F) c f) ∗ bigSep Finset.univ fun j => shutAll (F := F) c j) := by
  rw [x_bands, bands_halves c]
  simp only [StM, shutAll, bigSep_sep']
  iintro ⟨⟨Ho, Hp, Hx, Hr, S1, S2, S3, S7, S4, S6⟩, Hxp, S0, S5⟩
  isplitl [Hx Hxp]; · isplitl [Hx] <;> iassumption
  isplitl [Ho Hp]
  · iapply (out_join m ρ c)
    isplitl [Ho] <;> iassumption
  isplitl [Hr]
  · iapply (r_join c fun _ => X m ρ c fun a => ⟨0, by fin_cases a <;> decide⟩); iexact Hr
  isplitl [S0]; · iexact S0
  isplitl [S1]; · iexact S1
  isplitl [S2]; · iexact S2
  isplitl [S3]; · iexact S3
  isplitl [S4]; · iexact S4
  isplitl [S5]; · iexact S5
  isplitl [S6] <;> iassumption

/-- What is owed may be written in another way. -/
theorem owes_eq (c : Dev nD) {O O' : CellTallies nD τ sig Unit} (h : O = O') :
    iprop(∃ W, owes (c : Thread nD τ) O W) ⊢ (iprop(∃ W, owes (c : Thread nD τ) O' W) : sProp 𝕄) := by rw [h]

/-! ## The body -/

/-- What a device's body starts from. -/
def Pre (c : Dev nD) : sProp 𝕄 :=
  iprop(env m ρ K ∗ ghost c ∗ credits c ∗ xW c (X m ρ c) ∗ (∃ f, oW (F := F) c f) ∗ (∃ f, rW (F := F) c f) ∗ ∃ W, owes (c : Thread nD τ) (O₀ c) W)

/-- An end device's body. -/
theorem body_end (c : Dev nD) (hc : ¬ isMid c) (Q : PUnit → sProp 𝕄) :
    Pre m ρ K c ⊢ iprop((Post m ρ c -∗ Q ⟨⟩) -∗ WP c (bodyAt c) Q) := by
  have e : bodyAt (F := F) c = (barE c ((cond1_iff c).mpr hc) >>= fun _ => run (endOrder.map (stepE c ((cond3_iff c).mpr hc))) >>= fun _ => .ret ⟨⟩) := by
    unfold bodyAt
    rw [dif_pos ((cond1_iff c).mpr hc), dif_neg (fun h => hc ((cond2_iff c).mp h)), dif_pos ((cond3_iff c).mpr hc), dif_neg (fun h => hc ((cond4_iff c).mp h))]
    rfl
  rw [e]
  unfold WP Pre ghost credits
  rw [wp_bind]
  iintro ⟨#He, ⟨Hat, Hpos, Hbt, Htok⟩, ⟨Hcb, Hcr⟩, Hx, Ho, Hr, HO⟩ Hk
  iapply (bar_end m ρ K c ((cond1_iff c).mpr hc)) $$ [Hat Hbt Hcb Ho HO]
  · isplitr; · iexact He
    isplitl [Hat]; · iexact Hat
    isplitl [Hbt]; · iexact Hbt
    isplitl [Hcb]; · iexact Hcb
    isplitl [Ho] <;> iassumption
  iintro ⟨HO, Hzb, B0, B2⟩
  ihave Hx2 := (Entails.of_eq ((x_bands c (X m ρ c)).trans (bands_halves c _))) $$ Hx
  icases Hx2 with ⟨Hxo, Hxp⟩
  ihave Hs := (start_end m ρ c hc) $$ [Hxo B0 B2 Hpos Htok Hcr]
  · isplitl [Hxo]; · iexact Hxo
    isplitl [B0]; · iexact B0
    isplitl [B2]; · iexact B2
    isplitl [Hpos]; · iexact Hpos
    isplitl [Htok] <;> iassumption
  icases Hs with ⟨Hs, P1, P2, P3, P4⟩
  imod (shut_family m ρ K c 1 (by simp [act, hc])) $$ [P1] with S1
  · isplitr; · iexact He
    iexact P1
  imod (shut_family m ρ K c 2 (by simp [act, hc])) $$ [P2] with S2
  · isplitr; · iexact He
    iexact P2
  imod (shut_family m ρ K c 3 (by simp [act, hc])) $$ [P3] with S3
  · isplitr; · iexact He
    iexact P3
  imod (shut_family m ρ K c 4 (by simp [act, hc])) $$ [P4] with S4
  · isplitr; · iexact He
    iexact P4
  rw [wp_bind]
  iapply (end_run m ρ K c ((cond3_iff c).mpr hc))
  isplitl [Hs HO]
  · unfold Inv
    isplitr; · iexact He
    isplitl [Hs]; · iexact Hs
    iapply (owes_eq c (Finset.sum_congr rfl fun j _ => (if_neg hc : Ow c j = OwE c j 0)))
    iexact HO
  unfold Inv
  iintro ⟨-, Hs, HO⟩
  ihave Hf := (finish_end m ρ c) $$ [Hs Hxp S1 S2 S3 S4]
  · isplitl [Hs]; · iexact Hs
    isplitl [Hxp]; · iexact Hxp
    isplitl [S1]; · iexact S1
    isplitl [S2]; · iexact S2
    isplitl [S3] <;> iassumption
  icases Hf with ⟨Hx, Ho, Hsh⟩
  rw [wp_ret]; imodintro
  iapply Hk
  unfold Post
  isplitl [Hx]; · iexact Hx
  isplitl [Ho]; · iexact Ho
  isplitl [Hr]; · iexact Hr
  isplitl [Hzb]; · iexact Hzb
  isplitl [Hsh]; · iexact Hsh
  iapply (owes_eq c (Finset.sum_eq_zero fun j _ => (rfl : OwE c j 5 = 0)))
  iexact HO

/-- A middle device's body. -/
theorem body_mid (c : Dev nD) (hc : isMid c) (Q : PUnit → sProp 𝕄) :
    Pre m ρ K c ⊢ iprop((Post m ρ c -∗ Q ⟨⟩) -∗ WP c (bodyAt c) Q) := by
  have e : bodyAt (F := F) c = (barM c ((cond2_iff c).mpr hc) >>= fun _ => run (midOrder.map (stepM c ((cond4_iff c).mpr hc)))) := by
    unfold bodyAt
    rw [dif_neg (fun h => (cond1_iff c).mp h hc), dif_pos ((cond2_iff c).mpr hc), dif_neg (fun h => (cond3_iff c).mp h hc), dif_pos ((cond4_iff c).mpr hc)]
  rw [e]
  unfold WP Pre ghost credits
  rw [wp_bind]
  iintro ⟨#He, ⟨Hat, Hpos, Hbt, Htok⟩, ⟨Hcb, Hcr⟩, Hx, Ho, Hr, HO⟩ Hk
  iapply (bar_mid m ρ K c ((cond2_iff c).mpr hc)) $$ [Hat Hbt Hcb Ho Hr HO]
  · isplitr; · iexact He
    isplitl [Hat]; · iexact Hat
    isplitl [Hbt]; · iexact Hbt
    isplitl [Hcb]; · iexact Hcb
    isplitl [Ho]; · iexact Ho
    isplitl [Hr] <;> iassumption
  iintro ⟨HO, Hzb, B0, B1, B2⟩
  ihave Hx2 := (Entails.of_eq ((x_bands c (X m ρ c)).trans (bands_halves c _))) $$ Hx
  icases Hx2 with ⟨Hxo, Hxp⟩
  ihave Hs := (start_mid m ρ c hc) $$ [Hxo B0 B1 B2 Hpos Htok Hcr]
  · isplitl [Hxo]; · iexact Hxo
    isplitl [B0]; · iexact B0
    isplitl [B1]; · iexact B1
    isplitl [B2]; · iexact B2
    isplitl [Hpos]; · iexact Hpos
    isplitl [Htok] <;> iassumption
  icases Hs with ⟨Hs, P0, P5⟩
  imod (shut_family m ρ K c 0 (by simp [act, hc])) $$ [P0] with S0
  · isplitr; · iexact He
    iexact P0
  imod (shut_family m ρ K c 5 (by simp [act, hc])) $$ [P5] with S5
  · isplitr; · iexact He
    iexact P5
  iapply (mid_run m ρ K c ((cond4_iff c).mpr hc))
  isplitl [Hs HO]
  · unfold Inv
    isplitr; · iexact He
    isplitl [Hs]; · iexact Hs
    iapply (owes_eq c (Finset.sum_congr rfl fun j _ => (if_pos hc : Ow c j = OwM c j 0)))
    iexact HO
  unfold Inv
  iintro ⟨-, Hs, HO⟩
  ihave Hf := (finish_mid m ρ c) $$ [Hs Hxp S0 S5]
  · isplitl [Hs]; · iexact Hs
    isplitl [Hxp]; · iexact Hxp
    isplitl [S0] <;> iassumption
  icases Hf with ⟨Hx, Ho, Hr, Hsh⟩
  iapply Hk
  unfold Post
  isplitl [Hx]; · iexact Hx
  isplitl [Ho]; · iexact Ho
  isplitl [Hr]; · iexact Hr
  isplitl [Hzb]; · iexact Hzb
  isplitl [Hsh]; · iexact Hsh
  iapply (owes_eq c (Finset.sum_eq_zero fun j _ => (rfl : OwM c j 4 = 0)))
  iexact HO

/-- Any device's body. -/
theorem body_run (c : Dev nD) (Q : PUnit → sProp 𝕄) : Pre m ρ K c ⊢ iprop((Post m ρ c -∗ Q ⟨⟩) -∗ WP c (bodyAt c) Q) := by
  by_cases hc : isMid c
  · exact body_mid m ρ K c hc Q
  · exact body_end m ρ K c hc Q

end Cert.KernelIdeal.ZSum

end
-- ==== Proof.Deal.lean ====
/-
# The pipeline's obligation, and what the launch deals each device
-/
module

public import proofs.«01_k».proof.Proof.Whole

@[expose] public section

noncomputable section

namespace Cert.KernelIdeal.ZSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
/-! ## Regrouping by chunk -/

/-- Over a device's cells: the barrier cell, and the transfer cells. -/
theorem bigSep_cells (Φ : Cell → sProp 𝕄) : bigSep Finset.univ Φ = iprop(Φ none ∗ bigSep Finset.univ fun fj : Fin 8 × Fin 8 => Φ (some fj)) := by
  rw [bigSep_univ_at Φ none, show (Finset.univ.erase (none : Cell)) = Finset.univ.map ⟨some, Option.some_injective _⟩ from by decide, BI.bigSep_map]
  rfl

/-- A family over three, written out. -/
theorem bigSep_fin3 (Φ : Fin 3 → sProp 𝕄) : bigSep Finset.univ Φ = iprop(Φ 0 ∗ Φ 1 ∗ Φ 2) := bigSep_univ_eq_bigSepL [0, 1, 2] (by decide) (by decide) Φ
/-- A family over eight, written out. -/
theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-- Over the transfer cells: chunk by chunk, the eight families of each. -/
theorem bigSep_chunks (Φ : Fin 8 → Fin 8 → sProp 𝕄) :
    (bigSep Finset.univ fun fj : Fin 8 × Fin 8 => Φ fj.1 fj.2)
      = bigSep Finset.univ fun j => iprop(Φ 0 j ∗ Φ 1 j ∗ Φ 2 j ∗ Φ 3 j ∗ Φ 4 j ∗ Φ 5 j ∗ Φ 6 j ∗ Φ 7 j) := by
  rw [bigSep_univ_prod, bigSep_fin8]; simp only [bigSep_sep']

/-! ## The pipeline's proof data -/

/-- The grid has one point. -/
theorem cfg0_N : cfg0.N = 1 := N_0
/-- The grid's one point. -/
def t₀ : Fin cfg0.N := ⟨0, by rw [cfg0_N]; decide⟩
/-- Every point of the grid is that one. -/
theorem fin_N (t : Fin cfg0.N) : t = t₀ := by
  obtain ⟨t, ht⟩ := t; have := cfg0_N; exact Fin.ext (by simp only [t₀]; omega)

/-- The invariants of all cells, and that each is at round 0. -/
def records (K : Dev nD × Cell → ℕ) : sProp 𝕄 :=
  iprop((bigSep Finset.univ fun ck : Dev nD × Cell => cellInv ER (Rd m ρ) (K ck) (kcell ck))
    ∗ bigSep Finset.univ fun ck : Dev nD × Cell => reached ER (kcell ck) 0)
/-- The records may be read any number of times. -/
instance records_persistent (K : Dev nD × Cell → ℕ) : BI.Persistent (records m ρ K) := by unfold records; infer_instance

/-- What a device's kernel starts with: its part of the exchange, its credits, and the levels. -/
def start (c : Dev nD) : sProp 𝕄 := iprop((∃ K, records m ρ K ∗ ghost c) ∗ credits c ∗ levAts L lv)
/-- What the body holds before its point: that, and the landing buffer. -/
def Φ₀ (c : Dev nD) : sProp 𝕄 := iprop(start m ρ c ∗ ∃ f, rW (F := F) c f)
/-- What it holds after: the landing buffer, and every counter closed at zero. -/
def Φ₁ (c : Dev nD) : sProp 𝕄 := iprop((∃ f, rW (F := F) c f) ∗ semVal (barCell c) 0 ∗ bigSep Finset.univ fun j => shutAll c j)

open Idealize.ShloMosaic.Pipeline (Dat BodyObligation)

/-- The contents of the two windows, what the body holds, and what is owed, before the grid's point and after. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => X m ρ c
    | ⟨1, _⟩ => outAt m ρ c
  Φ t := match t with
    | ⟨0, _⟩ => Φ₀ m ρ c
    | ⟨_ + 1, _⟩ => Φ₁ (F := F) c
  q _ := fullShare
  owed t := match t with
    | ⟨0, _⟩ => O₀ c
    | ⟨_ + 1, _⟩ => 0

/-- A family over the windows, written out. -/
theorem bigSep_W (Φ : Fin cfg0.W → sProp 𝕄) : bigSep Finset.univ Φ = iprop(Φ (0 : Fin 2) ∗ Φ (1 : Fin 2)) := bigSep_W0 Φ
/-- The `x` window is fetched at the one point. -/
theorem fetch_0 (t : Fin cfg0.N) : (cfg0.win (0 : Fin 2)).fetch t = true := by rw [fin_N t]; rfl

/-- Owning a whole buffer through its memref is its points-to. -/
theorem owns_whole_eq (c : Dev nD) (b : Ref sig .tc) (f : b.ty.Contents (Elt F)) :
    (owns (Ix := Unit) (Name := ℕ) (U := UU) (Lvl := ℕ) (c : Thread nD τ) (Memref.whole b) fullShare f : sProp 𝕄)
      = iprop(∃ g : Buf (Elt F) (((c : Dev nD) : Thread nD τ).loc b), ⌜g = f⌝ ∗ (((c : Thread nD τ).loc b) ↦{fullShare} g)) := by
  unfold owns; simp only [Memref.view_whole, View.read_whole, View.set_whole]

/-- A staging buffer of device `c` at contents `f`. -/
abbrev stg (c : Dev nD) (b : Ref sig .tc) (f : b.ty.Contents (Elt F)) : sProp 𝕄 :=
  iprop(∃ g : Buf (Elt F) (((c : Dev nD) : Thread nD τ).loc b), ⌜g = f⌝ ∗ (((c : Thread nD τ).loc b) ↦{fullShare} g))

/-- What the body's obligation starts from. -/
def bodyPre (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))
/-- What it must end with. -/
def bodyPost (c : Dev nD) : sProp 𝕄 :=
  iprop(Φ₁ (F := F) c ∗ (dats m ρ 0 c).owesAt () t₀.succ ∗ stg c cc0_stg0_0 (X m ρ c) ∗ stg c cc0_stg1_0 (outAt m ρ c))

/-- The body's end is what its obligation asks. -/
theorem post_intro (c : Dev nD) : Post m ρ c ⊢ bodyPost m ρ c := by
  unfold Post bodyPost Φ₁ Dat.owesAt Pipeline.owesWithin
  rw [show (dats m ρ 0 c).owed t₀.succ = 0 from rfl]
  iintro ⟨Hx, Ho, Hr, Hz, Hsh, ⟨%W, HO⟩⟩
  isplitl [Hr Hz Hsh]
  · isplitl [Hr]; · iexact Hr
    isplitl [Hz] <;> iassumption
  isplitl [HO]
  · iexists W
    isplitr; · ipureintro; exact fun _ _ => Or.inl trivial
    iexact HO
  isplitl [Hx]
  · iexists _; isplitr; · (ipureintro; rfl)
    iexact Hx
  iexists _; isplitr; · (ipureintro; rfl)
  iexact Ho

/-- The body runs from what the pipeline hands it to what it takes back. -/
theorem sound_body (c : Dev nD) :
    bodyPre m ρ c ⊢ wp frame (wpE (defs₀ (F := F)) 𝒱₀ c none) Set.univ
      (cc0_body xM (Memref.isWhole_whole _) oM (Memref.isWhole_whole _) rM (Memref.isWhole_whole _)
        cc0_scratch1 cc0_scratch2 cc0_scratch3 cc0_scratch4 cc0_scratch5 cc0_scratch6 cc0_scratch7 cc0_scratch8) (fun _ => bodyPost m ρ c) := by
  rw [body_eq]
  simp only [Prog.lift, Prog.bind_op, Prog.bind_ret, wp_deviceId]
  unfold bodyPre Φ₀ start records
  iintro ⟨⟨⟨⟨%K, ⟨HI, HR⟩, Hg⟩, Hcr, HL⟩, Hr⟩, HO, ⟨%d0, %g0, %hg0, Hx⟩, ⟨%d1, %g1, %hg1, Ho⟩⟩
  have hx : g0 = X m ρ c := by rw [hg0]; unfold Dat.before; rw [if_pos (fetch_0 t₀)]; rfl
  subst hx
  unfold Dat.owesAt Pipeline.owesWithin
  icases HO with ⟨%W, %hW, HO⟩
  rw [show (dats m ρ 0 c).owed t₀.castSucc = O₀ c from rfl]
  iapply (body_run m ρ K c fun _ => bodyPost m ρ c) $$ [HI HR Hg Hcr HL Hr HO Hx Ho]
  · unfold Pre env
    isplitl [HI HR HL]
    · isplitl [HI]; · iexact HI
      isplitl [HR] <;> iassumption
    isplitl [Hg]; · iexact Hg
    isplitl [Hcr]; · iexact Hcr
    isplitl [Hx]; · iexact Hx
    isplitl [Ho]; · iexists g1; iexact Ho
    isplitl [Hr]; · iexact Hr
    iexists W; iexact HO
  iintro H
  iapply (post_intro m ρ c); iexact H

/-- The library's body obligation on device `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  exact sound_body m ρ c

/-! ## The launch element and its dealing -/

/-- The kernel's own semaphores: the transfer cells'. -/
abbrev osem : Fin 8 × Fin 8 → SemLoc sig := fun fj => csem (some fj)

/-- The kernel's own semaphores are scoped, distinct, and none of them is a staging semaphore. -/
theorem ownSemFacts : Pipeline.OwnSemFacts cfg0.spec osem where
  isScoped := by decide
  inj := fun a b h => Option.some.inj (csem_injective h)
  disj := by
    intro k w s h
    have e := congrArg kindOf h
    have e' : ∀ (w : Fin cfg0.W) (s : Fin (cfg0.spec w).nbuf), kindOf (SemLoc.dma ((cfg0.spec w).sem s)) = none := by decide
    rw [show kindOf (osem k) = some (some k) from kindOf_csem (some k), e' w s] at e
    cases e

/-- Every window's array is held whole. -/
theorem share_eq (c : Dev nD) (w : Fin cfg0.W) : (dats m ρ 0 c).share w = fullShare := by unfold Dat.share; split <;> rfl

/-- The cells of all the devices. -/
def allCells : Finset (GSem nD τ sig) := Finset.univ.map ⟨kcell, kcell_injective⟩
/-- The duty tokens: of every cell, the three a barrier cell can have. -/
def tokOf (x : (Dev nD × Cell) × Fin 3) : GSem nD τ sig × ℕ × Fin 3 := (kcell x.1, 0, x.2)
/-- Different duties have different tokens. -/
theorem tokOf_injective : Function.Injective tokOf := by
  rintro ⟨ck, d⟩ ⟨ck', d'⟩ h
  have h1 : ck = ck' := kcell_injective (congrArg Prod.fst h)
  have h2 : d = d' := congrArg (fun x : GSem nD τ sig × ℕ × Fin 3 => x.2.2) h
  rw [h1, h2]
/-- The tokens of all the duties. -/
def allToks : Finset (GSem nD τ sig × ℕ × Fin 3) := Finset.univ.map ⟨tokOf, tokOf_injective⟩

/-- The launch's ghost element: the pipeline's cells, and the exchange's. -/
def u₀ : UU := (initOf (Pipeline.cells cfgs cellOf_inj) (Pipeline.launchToks cfgs cellOf_inj), initOf allCells allToks)

/-- The duty tokens of a device's own cells. -/
def toks (c : Dev nD) : sProp 𝕄 := bigSep Finset.univ fun k : Cell => bigSep Finset.univ fun d : Fin 3 => dutyTok ER (kcell (c, k)) 0 d

/-- What the launch element deals device `c`. -/
def G (c : Dev nD) : sProp 𝕄 :=
  iprop((bigSep Finset.univ fun k : Cell => roundState ER (Rd m ρ) (kcell (c, k)) 0)
    ∗ (bigSep Finset.univ fun k : Cell => atPos ER (kcell (c, k)) 0 ∅ 0) ∗ (bigSep Finset.univ fun k : Cell => reached ER (kcell (c, k)) 0) ∗ toks c)

/-- What it has once every cell's invariant is allocated and the tokens are dealt. -/
def G' (c : Dev nD) : sProp 𝕄 := iprop(∃ K, records m ρ K ∗ ghost c)

/-- The exchange's part of the launch element deals every device its own. -/
theorem fund_cells : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun k : Cell => Φ (kcell (c, k)) := by
    unfold allCells; rw [BI.bigSep_map, bigSep_univ_prod]; rfl
  have hT : bigSep allToks (fun x => (dutyTok ER x.1 x.2.1 x.2.2 : sProp 𝕄)) = bigSep Finset.univ fun c : Dev nD => toks c := by
    unfold allToks toks; rw [BI.bigSep_map, bigSep_univ_prod, bigSep_univ_prod]; rfl
  iintro HX
  imod (Rounds.fund ER (Rd m ρ) allCells allToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat']; · iexact Hat'
  isplitl [Hr'] <;> iassumption

/-- The kernel's own semaphores at zero are the transfer cells closed. -/
theorem ownSems0_eq (c : Dev nD) : (Pipeline.ownSems0 (Ix := Unit) (Name := ℕ) (U := UU) (Lvl := ℕ) (Val := Elt F) (τ := τ) osem c : sProp 𝕄)
    = bigSep Finset.univ fun fj : Fin 8 × Fin 8 => shut c fj.1 fj.2 := rfl
/-- The one unscoped semaphore is the barrier's. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- A device's counters, all at zero, cell by cell. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Cell => semVal (kcell (c, k)) 0 : sProp 𝕄) := by
  rw [ownSems0_eq, unscopedSems0_eq, bigSep_cells]
  iintro ⟨H1, H2⟩
  isplitl [H2] <;> iassumption

/-- A device opens the invariants of its cells, and keeps positions and tokens. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : Cell => iprop(∃ κ : ℕ, cellInv ER (Rd m ρ) κ (kcell (c, k))))
          ∗ (bigSep Finset.univ fun k : Cell => atPos ER (kcell (c, k)) 0 ∅ 0) ∗ (bigSep Finset.univ fun k : Cell => reached ER (kcell (c, k)) 0) ∗ toks c) := by
  unfold G
  iintro ⟨Hos, Hus, Hst, Hat, Hr, Htok⟩
  ihave Hv := (sems0_eq (F := F) c) $$ [Hos Hus]
  · isplitl [Hos] <;> iassumption
  imod (show iprop((bigSep Finset.univ fun k : Cell => semVal (kcell (c, k)) 0) ∗ bigSep Finset.univ fun k : Cell => roundState ER (Rd m ρ) (kcell (c, k)) 0)
      ⊢ (|={Set.univ}=> bigSep Finset.univ fun k => iprop(∃ κ : ℕ, cellInv ER (Rd m ρ) κ (kcell (c, k))) : sProp 𝕄) from by
        rw [← bigSep_sep']
        exact (bigSep_mono fun k _ => (Rounds.body_intro ER (Rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Hr] <;> iassumption

/-- Positions, by chunk. -/
theorem positions (c : Dev nD) :
    (bigSep Finset.univ fun k : Cell => (atPos ER (kcell (c, k)) 0 ∅ 0 : sProp 𝕄)) ⊢ iprop(atPos ER (barCell c) 0 ∅ 0 ∗ bigSep Finset.univ fun j => posAll (F := F) c j) := by
  rw [bigSep_cells]
  exact Entails.of_eq (congrArg (fun R : sProp 𝕄 => iprop(atPos ER (barCell c) 0 ∅ 0 ∗ R)) (bigSep_chunks fun f j => pos (F := F) c f j))

/-- Of a cell's three tokens, the one that a transfer needs. -/
theorem tok_three (g : GSem nD τ sig) : (bigSep Finset.univ fun d : Fin 3 => (dutyTok ER g 0 d : sProp 𝕄)) ⊢ dutyTok ER g 0 0 := bigSep_elim (Finset.mem_univ _)

/-- The tokens of a device's own cells, the ones there is a use for. -/
def tokOwn (c : Dev nD) : sProp 𝕄 :=
  iprop((dutyTok ER (barCell c) 0 0 ∗ dutyTok ER (barCell c) 0 1 ∗ dutyTok ER (barCell c) 0 2)
    ∗ bigSep Finset.univ fun j => iprop(tok c 0 j ∗ tok c 1 j ∗ tok c 2 j ∗ tok c 3 j ∗ tok c 4 j ∗ tok c 5 j ∗ tok c 6 j ∗ tok c 7 j))
/-- The tokens of a device's own cells, with those that nothing pays dropped. -/
theorem tokens (c : Dev nD) : toks c ⊢ (tokOwn c : sProp 𝕄) := by
  unfold toks tokOwn
  rw [bigSep_cells, bigSep_fin3, ← bigSep_chunks fun f j => tok (F := F) c f j]
  exact sep_mono_right (bigSep_mono fun fj _ => tok_three (F := F) (xCell c fj.1 fj.2))

/-- Dealt along an involution of the devices. -/
theorem deal (e : Dev nD → Dev nD) (h : ∀ c, e (e c) = c) (Φ : Dev nD → sProp 𝕄) :
    bigSep Finset.univ (fun c => Φ c) ⊢ bigSep Finset.univ fun c => Φ (e c) :=
  Entails.of_eq (bigSep_univ_equiv (Function.Involutive.toPerm e h) Φ)

/-- The tokens dealt to the devices that pay with them. -/
theorem deal_all : (bigSep Finset.univ fun c : Dev nD => (tokOwn c : sProp 𝕄))
    ⊢ bigSep Finset.univ fun c : Dev nD => iprop(barToks (F := F) c ∗ bigSep Finset.univ fun j => tokAll (F := F) c j) := by
  unfold tokOwn barToks tokAll
  simp only [bigSep_sep']
  iintro ⟨⟨B0, B1, B2⟩, T0, T1, T2, T3, T4, T5, T6, T7⟩
  isplitl [B0 B1 B2]
  · isplitl [B0]; · iapply (deal zp zp_zp fun c => (dutyTok ER (barCell c) 0 0 : sProp 𝕄)); iexact B0
    isplitl [B1]; · iapply (deal mp mp_mp fun c => (dutyTok ER (barCell c) 0 1 : sProp 𝕄)); iexact B1
    iapply (deal yp yp_yp fun c => (dutyTok ER (barCell c) 0 2 : sProp 𝕄)); iexact B2
  isplitl [T0]; · iexact T0
  isplitl [T1]; · iapply (deal zp zp_zp fun c => bigSep Finset.univ fun j => tok (F := F) c 1 j); iexact T1
  isplitl [T2]; · iexact T2
  isplitl [T3]; · iapply (deal mp mp_mp fun c => bigSep Finset.univ fun j => tok (F := F) c 3 j); iexact T3
  isplitl [T4]; · iexact T4
  isplitl [T5]; · iapply (deal zp zp_zp fun c => bigSep Finset.univ fun j => tok (F := F) c 5 j); iexact T5
  isplitl [T6]; · iexact T6
  iapply (deal yp yp_yp fun c => bigSep Finset.univ fun j => tok (F := F) c 7 j); iexact T7

/-- So all the tokens come to the devices that pay with them. -/
theorem toks_around : (bigSep Finset.univ fun c : Dev nD => (toks c : sProp 𝕄))
    ⊢ bigSep Finset.univ fun c : Dev nD => iprop(barToks (F := F) c ∗ bigSep Finset.univ fun j => tokAll (F := F) c j) :=
  (bigSep_mono fun c _ => tokens (F := F) c).trans deal_all
/-- The positions of every device, by chunk. -/
theorem positions_all : (bigSep Finset.univ fun c : Dev nD => bigSep Finset.univ fun k : Cell => (atPos ER (kcell (c, k)) 0 ∅ 0 : sProp 𝕄))
    ⊢ bigSep Finset.univ fun c : Dev nD => iprop(atPos ER (barCell c) 0 ∅ 0 ∗ bigSep Finset.univ fun j => posAll (F := F) c j) :=
  bigSep_mono fun c _ => positions (F := F) c

/-- What all the devices opened, dealt out again: the records to everyone, positions and tokens to whom they serve. -/
theorem regroup :
    (bigSep Finset.univ fun c : Dev nD => iprop((bigSep Finset.univ fun k : Cell => iprop(∃ κ : ℕ, cellInv ER (Rd m ρ) κ (kcell (c, k))))
          ∗ (bigSep Finset.univ fun k : Cell => atPos ER (kcell (c, k)) 0 ∅ 0) ∗ (bigSep Finset.univ fun k : Cell => reached ER (kcell (c, k)) 0) ∗ toks c) : sProp 𝕄)
      ⊢ bigSep Finset.univ (G' m ρ) := by
  rw [bigSep_sep', bigSep_sep', bigSep_sep', ← bigSep_univ_prod (fun ck : Dev nD × Cell => iprop(∃ κ : ℕ, cellInv ER (Rd m ρ) κ (kcell ck))),
    ← bigSep_univ_prod (fun ck : Dev nD × Cell => (reached ER (kcell ck) 0 : sProp 𝕄))]
  iintro ⟨HI, Hat, #HR, Htok⟩
  ihave HK := (BI.bigSep_exists_pi Finset.univ (fun (ck : Dev nD × Cell) (κ : ℕ) => (cellInv ER (Rd m ρ) κ (kcell ck) : sProp 𝕄))) $$ HI
  icases HK with ⟨%K, #HI⟩
  ihave Htk := (toks_around (F := F)) $$ Htok
  ihave Hps := (positions_all (F := F)) $$ Hat
  iapply (bigSep_with_persistent (R := records m ρ K)
    (Φ := fun c : Dev nD => iprop((atPos ER (barCell c) 0 ∅ 0 ∗ bigSep Finset.univ fun j => posAll (F := F) c j)
      ∗ (barToks (F := F) c ∗ bigSep Finset.univ fun j => tokAll (F := F) c j)))
    (Ψ := G' m ρ) fun c _ => by
      unfold G' ghost
      iintro ⟨#H, ⟨Ha, Hp⟩, Hb, Ht⟩
      iexists K
      isplitr; · iexact H
      isplitl [Ha]; · iexact Ha
      isplitl [Hp]; · iexact Hp
      isplitl [Hb] <;> iassumption)
  isplitr
  · unfold records; isplitl; · iexact HI
    iexact HR
  · iapply (Entails.of_eq (bigSep_sep' Finset.univ (fun c : Dev nD => iprop(atPos ER (barCell c) 0 ∅ 0 ∗ bigSep Finset.univ fun j => posAll (F := F) c j))
      (fun c : Dev nD => iprop(barToks (F := F) c ∗ bigSep Finset.univ fun j => tokAll (F := F) c j))).symm)
    isplitl [Hps] <;> iassumption

/-- All devices' semaphores at once: every cell's invariant allocated, the tokens dealt. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

end Cert.KernelIdeal.ZSum

end
-- ==== Proof.Launch.lean ====
/-
# The launch

What every device owes at launch, so what credit every cell starts with; and the run of the whole program.
-/
module

public import proofs.«01_k».proof.Proof.Deal
public import Idealize.ShloMosaic.Lib.Pipeline.CollectiveSegs

@[expose] public section

noncomputable section

namespace Cert.KernelIdeal.ZSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
/-! ## The credit each cell is launched with -/

/-- What a tally at one cell holds at another. -/
theorem tally_cell (a b : Dev nD × Cell) (n : ℕ) : (tallyAt (kcell a) () n : CellTallies nD τ sig Unit) (kcell b) () = if b = a then n else 0 := by
  rw [tallyAt_apply]
  by_cases h : b = a
  · rw [if_pos ⟨congrArg kcell h, rfl⟩, if_pos h]
  · rw [if_neg (fun h' => h (kcell_injective h'.1)), if_neg h]

/-- How many transfers of family `f` to device `c`, and how many signals, device `d` owes at launch. -/
def owesX (d c : Dev nD) (f : Fin 8) : ℕ :=
  if isMid d then (if c = yp d ∧ f = 7 then 1 else 0) + (if c = zp d ∧ f = 5 then 1 else 0) + (if c = mp d ∧ f = 3 then 1 else 0)
  else (if c = yp d ∧ f = 7 then 1 else 0) + (if c = zp d ∧ f = 1 then 1 else 0)
/-- How many barrier units device `d` owes device `c`. -/
def owesB (d c : Dev nD) : ℕ := (if c = yp d then 1 else 0) + (if isMid d then (if c = mp d then 1 else 0) else 0) + (if c = zp d then 1 else 0)

/-- All devices together owe a cell what its owner waits for. -/
theorem total_bar (c : Dev nD) : ∑ d, owesB d c = nBar c := by revert c; decide +kernel
/-- All devices together owe a used receive cell one transfer. -/
theorem total_x (c : Dev nD) (f : Fin 8) (hf : f = 1 ∨ f = 3 ∨ f = 5 ∨ f = 7) (h : act f c = true) : ∑ d, owesX d c f = 1 := by
  revert c f; decide +kernel

/-- Two transfer cells are one when device, family and chunk are. -/
theorem cell_eq (c c' : Dev nD) (f j f' j' : Fin 8) : (((c, some (f, j)) : Dev nD × Cell) = (c', some (f', j'))) ↔ ((c = c' ∧ f = f') ∧ j = j') := by
  simp only [Prod.mk.injEq, Option.some.injEq, and_assoc]

/-- A transfer's tally counts when the cell is the one it lands on. -/
theorem tally_x (c c' : Dev nD) (f j f' j' : Fin 8) :
    (tallyAt (xCell c' f' j') () N : CellTallies nD τ sig Unit) (xCell c f j) () = if j = j' then N * (if c = c' ∧ f = f' then 1 else 0) else 0 := by
  rw [tally_cell]
  by_cases hj : j = j'
  · rw [if_pos hj]
    by_cases h : c = c' ∧ f = f'
    · rw [if_pos h, if_pos ((cell_eq c c' f j f' j').mpr ⟨h, hj⟩), Nat.mul_one]
    · rw [if_neg h, if_neg fun e => h ((cell_eq c c' f j f' j').mp e).1, Nat.mul_zero]
  · rw [if_neg hj, if_neg fun e => hj ((cell_eq c c' f j f' j').mp e).2]

/-- What device `d` owes a transfer cell for chunk `j'`. -/
theorem ow_x (d c : Dev nD) (f j j' : Fin 8) : Ow d j' (xCell c f j) () = if j = j' then N * owesX d c f else 0 := by
  unfold Ow owesX
  by_cases hd : isMid d
  · rw [if_pos hd, if_pos hd]
    unfold OwM
    simp only [Pi.add_apply, Finsupp.add_apply, tally_x]
    by_cases hj : j = j'
    · simp only [if_pos hj, Nat.mul_add]
    · simp only [if_neg hj]
  · rw [if_neg hd, if_neg hd]
    unfold OwE
    simp only [Pi.add_apply, Finsupp.add_apply, tally_x]
    by_cases hj : j = j'
    · simp only [if_pos hj, Nat.mul_add]
    · simp only [if_neg hj]
/-- Transfers owe nothing to a barrier cell. -/
theorem ow_bar (d c : Dev nD) (j' : Fin 8) : Ow d j' (barCell c) () = 0 := by
  unfold Ow
  have h (a : Dev nD) (f j : Fin 8) : ((c, none) : Dev nD × Cell) = (a, some (f, j)) ↔ False := by simp
  split
  · simp only [OwM, Pi.add_apply, Finsupp.add_apply, tally_cell, h, if_false]
  · simp only [OwE, Pi.add_apply, Finsupp.add_apply, tally_cell, h, if_false]

/-- What device `d` owes a transfer cell at launch. -/
theorem owed_x (d c : Dev nD) (f j : Fin 8) : O₀ d (xCell c f j) () = N * owesX d c f := by
  have h (a : Dev nD) : ((c, some (f, j)) : Dev nD × Cell) = (a, none) ↔ False := by simp
  have hb (a : Dev nD) : (tallyAt (barCell a) () 1 : CellTallies nD τ sig Unit) (xCell c f j) () = 0 := by
    rw [tally_cell]; exact if_neg (h a).mp
  unfold O₀
  rw [Pi.add_apply, Finsupp.add_apply, Pi.add_apply, Finsupp.add_apply, Pi.add_apply, Finsupp.add_apply, hb, hb, Finset.sum_apply, Finsupp.finsetSum_apply,
    Finset.sum_congr rfl fun j' _ => ow_x d c f j j', Finset.sum_ite_eq, if_pos (Finset.mem_univ _)]
  split
  · rw [hb]; rfl
  · rfl
/-- What device `d` owes a barrier cell at launch. -/
theorem owed_bar (d c : Dev nD) : O₀ d (barCell c) () = owesB d c := by
  have hb (a : Dev nD) : (tallyAt (barCell a) () 1 : CellTallies nD τ sig Unit) (barCell c) () = if c = a then 1 else 0 := by
    rw [tally_cell]
    by_cases h : c = a
    · rw [if_pos h, if_pos (by rw [h])]
    · rw [if_neg h, if_neg fun h' => h (congrArg Prod.fst h')]
  have hm : (if isMid d then tallyAt (barCell (mp d)) () 1 else 0 : CellTallies nD τ sig Unit) (barCell c) () = if isMid d then (if c = mp d then 1 else 0) else 0 := by
    by_cases h : isMid d
    · rw [if_pos h, if_pos h, hb]
    · rw [if_neg h, if_neg h]; rfl
  unfold O₀ owesB
  rw [Pi.add_apply, Finsupp.add_apply, Pi.add_apply, Finsupp.add_apply, Pi.add_apply, Finsupp.add_apply, hb, hb, Finset.sum_apply, Finsupp.finsetSum_apply,
    Finset.sum_congr rfl fun j' _ => ow_bar d c j', Finset.sum_const_zero, Nat.zero_add, hm]

/-- The credit that a barrier cell is launched with. -/
theorem launch_bar (c : Dev nD) :
    tallyOn (barCell c) (launchCredit (Pipeline.owing O₀) 0 (barCell c)) = (tallyAt (barCell c) () (nBar c) : CellTallies nD τ sig Unit) := by
  unfold tallyAt; refine congrArg _ (Finsupp.ext fun u => ?_); cases u
  rw [Pipeline.launchCredit_owing, Finsupp.single_eq_same, Finset.sum_congr rfl fun d _ => owed_bar d c, total_bar]
/-- The credit that a receive cell is launched with: one transfer. -/
theorem launch_x (c : Dev nD) (f j : Fin 8) (hf : f = 1 ∨ f = 3 ∨ f = 5 ∨ f = 7) (h : act f c = true) :
    tallyOn (xCell c f j) (launchCredit (Pipeline.owing O₀) 0 (xCell c f j)) = (tallyAt (xCell c f j) () N : CellTallies nD τ sig Unit) := by
  unfold tallyAt; refine congrArg _ (Finsupp.ext fun u => ?_); cases u
  rw [Pipeline.launchCredit_owing, Finsupp.single_eq_same, Finset.sum_congr rfl fun d _ => owed_x d c f j, ← Finset.mul_sum, total_x c f hf h, Nat.mul_one]

/-- The credits it waits with, out of all eight. -/
theorem mid_three (Φ : Fin 8 → sProp 𝕄) : iprop(Φ 0 ∗ Φ 1 ∗ Φ 2 ∗ Φ 3 ∗ Φ 4 ∗ Φ 5 ∗ Φ 6 ∗ Φ 7) ⊢ iprop(Φ 1 ∗ Φ 3 ∗ Φ 7) := by
  iintro ⟨-, H1, -, H3, -, -, -, H7⟩
  isplitl [H1]; · iexact H1
  isplitl [H3] <;> iassumption
/-- The same for an end device. -/
theorem end_two (Φ : Fin 8 → sProp 𝕄) : iprop(Φ 0 ∗ Φ 1 ∗ Φ 2 ∗ Φ 3 ∗ Φ 4 ∗ Φ 5 ∗ Φ 6 ∗ Φ 7) ⊢ iprop(Φ 5 ∗ Φ 7) := by
  iintro ⟨-, -, -, -, -, H5, -, H7⟩
  isplitl [H5] <;> iassumption

/-- A device's launch credit, cell by cell. -/
theorem cred_cells (c : Dev nD) :
    (Pipeline.launchCred O₀ c : sProp 𝕄) ⊢ bigSep Finset.univ fun k : Cell => cred (tallyOn (kcell (c, k)) (launchCredit (Pipeline.owing O₀) 0 (kcell (c, k)))) := by
  unfold Pipeline.launchCred
  refine (bigSep_subset (t := Finset.univ.map ⟨csem, csem_injective⟩) (Finset.subset_univ _)).trans ?_
  rw [BI.bigSep_map]
  exact BI.Entails.refl _

/-- A device's launch credit holds the credits that it waits with. -/
theorem creds (c : Dev nD) : (Pipeline.launchCred O₀ c : sProp 𝕄) ⊢ credits c := by
  refine (cred_cells c).trans ?_
  rw [bigSep_cells, launch_bar,
    bigSep_chunks fun f j => (cred (tallyOn (xCell c f j) (launchCredit (Pipeline.owing O₀) 0 (xCell c f j))) : sProp 𝕄)]
  unfold credits
  refine sep_mono_right (bigSep_mono fun j _ => ?_)
  unfold crdAll
  by_cases hc : isMid c
  · rw [if_pos hc]
    refine (mid_three fun f => (cred (tallyOn (xCell c f j) (launchCredit (Pipeline.owing O₀) 0 (xCell c f j))) : sProp 𝕄)).trans ?_
    rw [launch_x c 1 j (by decide) (by simp [act, hc]), launch_x c 3 j (by decide) (by simp [act, hc]), launch_x c 7 j (by decide) rfl]
  · rw [if_neg hc]
    refine (end_two fun f => (cred (tallyOn (xCell c f j) (launchCredit (Pipeline.owing O₀) 0 (xCell c f j))) : sProp 𝕄)).trans ?_
    rw [launch_x c 5 j (by decide) (by simp [act, hc]), launch_x c 7 j (by decide) rfl]

/-! ## The launch theorem's side conditions -/

/-- From the launch's deal a device gets what its kernel starts with. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc] <;> iassumption
  · iempintro

/-- With its scratch buffer that is what the body holds before its point. -/
theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  isplitl [Hs] <;> iassumption

/-- What the body holds at the end gives back the counters at zero and the scratch buffer. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq, bigSep_chunks fun f j => shut (F := F) c f j]
  unfold Φ₁
  iintro ⟨Hr, Hz, Hsh⟩
  isplitl [Hz]; · iexact Hz
  isplitl [Hsh]; · iexact Hsh
  iexact Hr

/-- Everything owed at launch is owed above the staging semaphores. -/
theorem above_O₀ (c : Dev nD) : Above 0 (O₀ c) := by
  have hs : Above 0 (∑ j, Ow c j) := fun g u h => ⟨(above_Ow c g u h).1, Nat.lt_of_le_of_lt (Nat.zero_le 1) (above_Ow c g u h).2⟩
  have hb (a : Dev nD) : Above 0 (tallyAt (barCell a) () 1) := above_tally a none 1 Nat.zero_lt_one
  refine above_add (above_add (above_add hs (hb _)) ?_) (hb _)
  split
  · exact hb _
  · exact above_zero 0

/-- The staging semaphores are at level zero. -/
theorem lv_stage (c : Dev nD) (w : Fin cfg0.W) (s : Fin (cfg0.win w).nbuf) : lv ((c : Thread nD τ), SemLoc.dma ((cfg0.win w).sem s)) () = 0 := by
  have h : kindOf (SemLoc.dma ((cfg0.win w).sem s)) = none := by fin_cases w <;> fin_cases s <;> rfl
  unfold lv; rw [h]

/-- So the pipeline may wait on them at any time. -/
theorem waits (c : Dev nD) : (levAts L lv : sProp 𝕄) ⊢ Pipeline.cellsWaits cfgs (dats m ρ) () 0 c :=
  Pipeline.cellsWaits_intro cfgs (dats m ρ) () 0 c fun w s t =>
    mayWait_above c _ ((lv_stage c w s).symm ▸ (by
      rcases t with ⟨_ | _, ht⟩
      · exact above_O₀ c
      · exact above_zero 0))

/-! ## The run -/

/-- The contents of a window's array after the run. -/
def finalA (c : Dev nD) (w : Fin cfg0.W) : Buf (Elt F) ((cfg0.win w).arr.view.loc (c : Thread nD τ)) := (dats m ρ 0 c).arrAt w cfg0.N

/-- Every window's array holds its final contents on every device. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- For any float values, from any memory with zero counters: every weakly fair execution of @main on the 32 devices ends,
    and in every final state each device's arrays hold the computed contents and every semaphore counter is zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_cells m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The `x` array after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

end Cert.KernelIdeal.ZSum

end
-- ==== Proof.Value.lean ====
/-
# The value

At exact arithmetic the result on every device is the sum of the four row blocks of the whole `x`; so is the reference's.
-/
module

public import proofs.«01_k».proof.Proof.Launch
public import proofs.«01_k».proof.Defs
public import proofs.«01_k».proof.Proof.Gen.Kernel
public import proofs.«01_k».proof.Proof.Gen.ReferenceIdeal.Run
public import Idealize.ShloMosaic.Lib.Layout
public import Idealize.ShloMosaic.Lib.Claim
public import Idealize.ShloMosaic.Lib.Pointwise
public import Idealize.ShloMosaic.Lib.Pipeline.ValueKit

@[expose] public section

noncomputable section

namespace Cert.KernelIdeal.ZSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable (m : (ℓ : Loc nD τ sig) → Buf (Elt Ideal) ℓ) (ρ : Dev nD → PrngReg)

/-- The staged block of `x` is the whole argument array. -/
theorem X_eq (c : Dev nD) : X m ρ c = m ((c : Thread nD τ).loc main_arg0) := by
  funext i
  refine congrArg (m ((c : Thread nD τ).loc main_arg0)) (?_ : ((cfg0.win (0 : Fin 2)).blk t₀).view.emb i = i)
  funext a
  refine Fin.ext ?_
  match a with
  | ⟨0, _⟩ =>
    blk_simp
    exact (congrArg (· + _) (show win0_0.index t₀ 0 * 2048 = 0 from rfl)).trans (Nat.zero_add _)
  | ⟨1, _⟩ =>
    blk_simp
    exact (congrArg (· + _) (show win0_0.index t₀ 1 * 512 = 0 from rfl)).trans (Nat.zero_add _)

/-- The result array after the run is what the device came to hold in its output buffer. -/
theorem finalA_out (c : Dev nD) : finalA m ρ c (1 : Fin 2) = outAt m ρ c :=
  (dats m ρ 0 c).arrAt_eq_of_after_last (1 : Fin 2) t₀ (by decide +kernel) _ fun j => by
    blk_simp
    rfl

/-- The four blocks of the rows of the whole `x`, and the whole `x` they are blocks of. -/
abbrev Whole : Type := FVec Ideal ⟨2, ![8192, 512]⟩ .f32

/-- The entry of block `k` of the whole array at an index of a block. -/
def entry (x : Whole) (i : S2048x512.Idx) (k : Fin 4) : EReal := x (Shape.pair ⟨k.val * 2048 + (i 0).val, by
  have h : (i 0).val < 2048 := (i 0).isLt
  have := k.isLt
  show _ < 8192
  omega⟩ ⟨(i 1).val, (i 1).isLt⟩)

/-- The device's place along `z`, which says which block it holds. -/
def zz (c : Dev nD) : Fin 4 := ⟨c.val % 4, Nat.mod_lt _ (by decide)⟩

/-- Neighbours along `y` are at the same place along `z`. -/
theorem zz_yp (c : Dev nD) : zz (yp c) = zz c := by revert c; decide

/-- The four devices whose blocks a middle device adds hold the four blocks. -/
theorem zz_line (c : Dev nD) (h : isMid c) :
    (zz (zp c) = 0 ∧ zz c = 1 ∧ zz (zp (mp c)) = 3 ∧ zz (mp c) = 2) ∨ (zz (zp c) = 3 ∧ zz c = 2 ∧ zz (zp (mp c)) = 0 ∧ zz (mp c) = 1) := by
  revert c; decide

/-- A device's staged block is the block of the whole array at its place along `z`. -/
theorem X_entry (x : Whole) (hx : ∀ c : Dev nD, m ((c.tc : Thread nD τ).loc main_arg0)
      = Layout.blockN ⟨2, ![2048, 512]⟩ ⟨2, ![8192, 512]⟩ (Layout.meshBlock [2, 4, 4] ![[2], []] c) x) (c : Dev nD) (i : S2048x512.Idx) :
    X m ρ c i = entry x i (zz c) := by
  rw [X_eq, hx c]
  refine congrArg x (funext fun a => Fin.ext ?_)
  match a with
  | ⟨0, _⟩ =>
    show Layout.meshLin [2, 4, 4] c.val [2] * 2048 + (i 0).val = (c.val % 4) * 2048 + (i 0).val
    have : ∀ c : Dev nD, Layout.meshLin [2, 4, 4] c.val [2] = c.val % 4 := by decide
    rw [this c]
  | ⟨1, _⟩ =>
    show Layout.meshLin [2, 4, 4] c.val [] * 512 + (i 1).val = (i 1).val
    rw [show Layout.meshLin [2, 4, 4] c.val [] = 0 from rfl, Nat.zero_mul, Nat.zero_add]

/-- What a middle device forms is the sum of the four blocks, -/
theorem B_entry (x : Whole) (hx : ∀ c : Dev nD, m ((c.tc : Thread nD τ).loc main_arg0)
      = Layout.blockN ⟨2, ![2048, 512]⟩ ⟨2, ![8192, 512]⟩ (Layout.meshBlock [2, 4, 4] ![[2], []] c) x) (c : Dev nD) (hc : isMid c) (i : S2048x512.Idx) :
    B m ρ c i = ∑ k : Fin 4, entry x i k := by
  have e : B m ρ c i = ((entry x i (zz (zp c)) + entry x i (zz c)) + (entry x i (zz (zp (mp c))) + entry x i (zz (mp c))) : EReal) := by
    rw [← X_entry m ρ x hx, ← X_entry m ρ x hx, ← X_entry m ρ x hx, ← X_entry m ρ x hx]
    rfl
  rw [e, Fin.sum_univ_four]
  rcases zz_line c hc with ⟨h0, h1, h3, h2⟩ | ⟨h3, h2, h0, h1⟩
  · rw [h0, h1, h2, h3, add_comm (entry x i 3), ← add_assoc]
  · rw [h0, h1, h2, h3, add_comm, add_comm (entry x i 3), ← add_assoc]

/-- so it is the total on every device, -/
theorem T_entry (x : Whole) (hx : ∀ c : Dev nD, m ((c.tc : Thread nD τ).loc main_arg0)
      = Layout.blockN ⟨2, ![2048, 512]⟩ ⟨2, ![8192, 512]⟩ (Layout.meshBlock [2, 4, 4] ![[2], []] c) x) (c : Dev nD) (i : S2048x512.Idx) :
    T m ρ c i = ∑ k : Fin 4, entry x i k := by
  unfold T
  by_cases h : isMid c
  · rw [if_pos h]; exact B_entry m ρ x hx c h i
  · rw [if_neg h]; exact B_entry m ρ x hx (zp c) ((isMid_zp c).mpr h) i

/-- and the result, in both halves of its rows. -/
theorem out_entry (x : Whole) (hx : ∀ c : Dev nD, m ((c.tc : Thread nD τ).loc main_arg0)
      = Layout.blockN ⟨2, ![2048, 512]⟩ ⟨2, ![8192, 512]⟩ (Layout.meshBlock [2, 4, 4] ![[2], []] c) x) (c : Dev nD) (i : S2048x512.Idx) :
    outAt m ρ c i = ∑ k : Fin 4, entry x i k := by
  unfold outAt
  split
  · exact T_entry m ρ x hx c i
  · exact T_entry m ρ x hx (yp c) i

/-- The reference's result at an index is the sum of the four blocks there. -/
theorem ref_entry (x : Whole) (j : S2048x512.Idx) :
    Host.reduceAdd (shapeCast _ x Cert.ReferenceIdeal.Gen.shapeCasts_S8192x512_S4x2048x512) (constant Cert.ReferenceIdeal.S_ .f32 0x00000000#32)
      Cert.ReferenceIdeal.Gen.reducesTo_S4x2048x512_S2048x512_d0 Cert.ReferenceIdeal.Gen.h_S_ j = ∑ k : Fin 4, entry x j k := by
  pointwise
  refine Finset.sum_congr rfl fun k _ => congrArg x (funext fun a => ?_)
  match a with
  | ⟨0, _⟩ => rfl
  | ⟨1, _⟩ => rfl

/-! ## The claims -/

/-- The program's run, read at its argument and result arrays. -/
theorem run_value {F : FTy → Type} [FloatOps F] (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_v1) = finalA m ρ c (1 : Fin 2)) ∧ r.2.sem = fun _ => 0 :=
  (θ_run defs _ _).mono (fun _ h => ⟨fun c => ⟨(h.1 c (0 : Fin 2)).trans (finalA_x m ρ c), h.1 c (1 : Fin 2)⟩, h.2⟩) (run_main m ρ)

/-- The run leaves the arguments as they were and every counter at zero. -/
theorem run_frame {F : FTy → Type} [FloatOps F] (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_arg0) = m ((c.tc : Thread nD τ).loc main_arg0)) ∧ r.2.sem = fun _ => 0 :=
  (θ_run defs _ _).mono (fun _ h => ⟨fun c => (h.1 c).1, h.2⟩) (run_value m ρ)

/-- The frame of the program at exact arithmetic, -/
theorem frame_ideal : Cert.quiescent_KernelIdeal (hKernelIdeal := Cert.KernelIdeal.Gen.facts) := fun m ρ _ => run_frame m ρ

/-- The two programs' tables of bodies are one. -/
theorem bodies_eq : Cert.Kernel.defs₀ (F := Bits) = defs₀ (F := Bits) := by
  refine congrArg Defs.onTc (funext fun l => funext fun x => ?_)
  match l, x with
  | 0, (t, s) => rfl
  | ⟨_ + 1, h⟩, _ => exact absurd h (Nat.not_lt.2 (Nat.le_add_left _ _))
/-- So are the tables with the pipeline's region. -/
theorem table_eq : Cert.Kernel.defs (F := Bits) = defs (F := Bits) := congrArg (Pipeline.defs pcfgs) bodies_eq

/-- of the program as printed, whose text is the same, -/
theorem frame_kernel : Cert.quiescent_Kernel (hKernel := Cert.Kernel.Gen.facts) := fun m ρ _ => by
  have h : θ_run defs (onTc (τ := τ) (main (F := Bits))) ⟨m, fun _ => 0, ρ⟩ _ := run_frame (F := Bits) m ρ
  rw [← table_eq] at h
  exact h

/-- and of the reference, which declares no semaphore. -/
theorem frame_ref : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩) (Cert.ReferenceIdeal.Value.run m ρ)

/-- The kernel's result on every device is the reference's result on the whole `x`. -/
theorem value : Cert.algebraic_KernelIdeal_ReferenceIdeal (hKernelIdeal := Cert.KernelIdeal.Gen.facts) (hReferenceIdeal := Cert.ReferenceIdeal.Gen.facts) :=
  fun m ρ m' ρ' _ hx =>
    ⟨fun i => (∑ k : Fin 4, entry (m' (((0 : Dev Cert.ReferenceIdeal.nD).tc : Thread Cert.ReferenceIdeal.nD Cert.ReferenceIdeal.τ).loc Cert.ReferenceIdeal.main_arg0)) i k : EReal),
      (θ_run _ _ _).mono (fun _ h c => ⟨(h.1 c).2.trans ((finalA_out m ρ c).trans (funext fun i => out_entry m ρ _ hx c i)), (h.1 c).1⟩) (run_value m ρ),
      (θ_run _ _ _).mono (fun _ h => ⟨(h 0).1.trans (funext fun i => ref_entry _ i), (h 0).2⟩) (Cert.ReferenceIdeal.Value.run m' ρ')⟩

end Cert.KernelIdeal.ZSum

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.KernelIdeal.ZSum.frame_kernel, Cert.KernelIdeal.ZSum.frame_ideal, Cert.KernelIdeal.ZSum.frame_ref, trivial, Cert.KernelIdeal.ZSum.value⟩

end Cert.Proof

end
